-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024x19x19 : Shape := ⟨4, ![32, 1024, 19, 19]⟩
abbrev S255x1024x1x1 : Shape := ⟨4, ![255, 1024, 1, 1]⟩
abbrev S255 : Shape := ⟨1, ![255]⟩
abbrev S19x19x32x1024 : Shape := ⟨4, ![19, 19, 32, 1024]⟩
abbrev S361x32x1024 : Shape := ⟨3, ![361, 32, 1024]⟩
abbrev S2040x128 : Shape := ⟨2, ![2040, 128]⟩
abbrev S3x85 : Shape := ⟨2, ![3, 85]⟩
abbrev S_ : Shape := ⟨0, ![]⟩
abbrev S3x128 : Shape := ⟨2, ![3, 128]⟩
abbrev S384x1 : Shape := ⟨2, ![384, 1]⟩
abbrev S85x32x1083 : Shape := ⟨3, ![85, 32, 1083]⟩
abbrev S3x361x1024 : Shape := ⟨3, ![3, 361, 1024]⟩
abbrev S3x85x1083 : Shape := ⟨3, ![3, 85, 1083]⟩
abbrev S384x1024 : Shape := ⟨2, ![384, 1024]⟩
abbrev S3x2 : Shape := ⟨2, ![3, 2]⟩
abbrev S3 : Shape := ⟨1, ![3]⟩
abbrev S1x1 : Shape := ⟨2, ![1, 1]⟩
abbrev S1x361x512 : Shape := ⟨3, ![1, 361, 512]⟩
abbrev S361x512 : Shape := ⟨2, ![361, 512]⟩
abbrev S361x1x512 : Shape := ⟨3, ![361, 1, 512]⟩
abbrev S255x8x128 : Shape := ⟨3, ![255, 8, 128]⟩
abbrev S255x1024 : Shape := ⟨2, ![255, 1024]⟩
abbrev S85x1024 : Shape := ⟨2, ![85, 1024]⟩
abbrev S86x1024 : Shape := ⟨2, ![86, 1024]⟩
abbrev S1x361x1024 : Shape := ⟨3, ![1, 361, 1024]⟩
abbrev S361x1024 : Shape := ⟨2, ![361, 1024]⟩
abbrev S384x361 : Shape := ⟨2, ![384, 361]⟩
abbrev S1 : Shape := ⟨1, ![1]⟩
abbrev S85x1x1083 : Shape := ⟨3, ![85, 1, 1083]⟩
abbrev S85x1083 : Shape := ⟨2, ![85, 1083]⟩
abbrev S1x85x1083 : Shape := ⟨3, ![1, 85, 1083]⟩
abbrev S85x361 : Shape := ⟨2, ![85, 361]⟩
abbrev S1x361 : Shape := ⟨2, ![1, 361]⟩
abbrev S1x85x361 : Shape := ⟨3, ![1, 85, 361]⟩
abbrev S32x1083x85 : Shape := ⟨3, ![32, 1083, 85]⟩

abbrev nBuf : Space → Nat
  | .hbm => 13
  | .vmem => 5
  | .smem => 0
  | _ => 0

abbrev bufTy : (tb : Table) → Fin (tcTables nBuf tb) → BufTy
  | .hbm, ⟨0, _⟩ => ⟨S32x1024x19x19, .f32⟩
  | .hbm, ⟨1, _⟩ => ⟨S255x1024x1x1, .f32⟩
  | .hbm, ⟨2, _⟩ => ⟨S255, .f32⟩
  | .hbm, ⟨3, _⟩ => ⟨S19x19x32x1024, .f32⟩
  | .hbm, ⟨4, _⟩ => ⟨S361x32x1024, .f32⟩
  | .hbm, ⟨5, _⟩ => ⟨S2040x128, .f32⟩
  | .hbm, ⟨6, _⟩ => ⟨S3x85, .f32⟩
  | .hbm, ⟨7, _⟩ => ⟨S_, .i32⟩
  | .hbm, ⟨8, _⟩ => ⟨S_, .f32⟩
  | .hbm, ⟨9, _⟩ => ⟨S3x128, .f32⟩
  | .hbm, ⟨10, _⟩ => ⟨S384x1, .f32⟩
  | .hbm, ⟨11, _⟩ => ⟨S85x32x1083, .f32⟩
  | .hbm, ⟨12, _⟩ => ⟨S32x1083x85, .f32⟩
  | .local _ .vmem, ⟨0, _⟩ => ⟨S2040x128, .f32⟩
  | .local _ .vmem, ⟨1, _⟩ => ⟨S384x1, .f32⟩
  | .local _ .vmem, ⟨2, _⟩ => ⟨S3x361x1024, .f32⟩
  | .local _ .vmem, ⟨3, _⟩ => ⟨S3x85x1083, .f32⟩
  | .local _ .vmem, ⟨4, _⟩ => ⟨S384x1024, .bf16⟩
  | _, _ => ⟨S32x1024x19x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let v4 : BitVec 32 := Scalar.addi arg0 c2_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off1 (i : grid0.Coords) : Fin 2 → Nat :=
  let arg0 : BitVec 32 := BitVec.ofNat 32 (i 0).val
  let c2_i32_63 : BitVec 32 := 2#32
  let v195 : BitVec 32 := Scalar.addi arg0 c2_i32_63
  let c3_i32_64 : BitVec 32 := 3#32
  let v196 : BitVec 32 := Scalar.remsi v195 c3_i32_64
  let c0_i32_65 : BitVec 32 := 0#32
  ![v196.toNat, 0]
def k0_off2 (i : grid0.Coords) : Fin 3 → Nat :=
  let arg0 : BitVec 32 := BitVec.ofNat 32 (i 0).val
  let c2_i32_63 : BitVec 32 := 2#32
  let v195 : BitVec 32 := Scalar.addi arg0 c2_i32_63
  let c3_i32_64 : BitVec 32 := 3#32
  let v196 : BitVec 32 := Scalar.remsi v195 c3_i32_64
  let c0_i32_66 : BitVec 32 := 0#32
  let c0_i32_67 : BitVec 32 := 0#32
  ![v196.toNat, 0, 0]
def k0_off3 (i : grid0.Coords) : Fin 3 → Nat :=
  let c0_i32_68 : BitVec 32 := 0#32
  let arg0 : BitVec 32 := BitVec.ofNat 32 (i 0).val
  let c2_i32_62 : BitVec 32 := 2#32
  let v194 : BitVec 32 := Scalar.addi arg0 c2_i32_62
  let c0_i32_69 : BitVec 32 := 0#32
  ![0, v194.toNat, 0]
def k0_off4 (i : grid0.Coords) : Fin 2 → Nat :=
  let arg0 : BitVec 32 := BitVec.ofNat 32 (i 0).val
  let c2_i32_71 : BitVec 32 := 2#32
  let v204 : BitVec 32 := Scalar.addi arg0 c2_i32_71
  let c3_i32_72 : BitVec 32 := 3#32
  let v205 : BitVec 32 := Scalar.remsi v204 c3_i32_72
  let c1_i32_73 : BitVec 32 := 1#32
  ![v205.toNat, 1]
def k0_off5 (i : grid0.Coords) : Fin 3 → Nat :=
  let arg0 : BitVec 32 := BitVec.ofNat 32 (i 0).val
  let c2_i32_71 : BitVec 32 := 2#32
  let v204 : BitVec 32 := Scalar.addi arg0 c2_i32_71
  let c3_i32_72 : BitVec 32 := 3#32
  let v205 : BitVec 32 := Scalar.remsi v204 c3_i32_72
  let c0_i32_74 : BitVec 32 := 0#32
  let c512_i32_75 : BitVec 32 := 512#32
  ![v205.toNat, 0, 512]
def k0_off6 (i : grid0.Coords) : Fin 3 → Nat :=
  let c0_i32_76 : BitVec 32 := 0#32
  let arg0 : BitVec 32 := BitVec.ofNat 32 (i 0).val
  let c2_i32_70 : BitVec 32 := 2#32
  let v203 : BitVec 32 := Scalar.addi arg0 c2_i32_70
  let c512_i32_77 : BitVec 32 := 512#32
  ![0, v203.toNat, 512]
def k0_off7 (i : grid0.Coords) : Fin 2 → Nat :=
  let arg0 : BitVec 32 := BitVec.ofNat 32 (i 0).val
  let c3_i32 : BitVec 32 := 3#32
  let v0 : BitVec 32 := Scalar.remsi arg0 c3_i32
  let c0_i32_2 : BitVec 32 := 0#32
  ![v0.toNat, 0]
def k0_off8 (i : grid0.Coords) : Fin 3 → Nat :=
  let arg0 : BitVec 32 := BitVec.ofNat 32 (i 0).val
  let c3_i32 : BitVec 32 := 3#32
  let v0 : BitVec 32 := Scalar.remsi arg0 c3_i32
  let c0_i32_3 : BitVec 32 := 0#32
  let c0_i32_4 : BitVec 32 := 0#32
  ![v0.toNat, 0, 0]
def k0_off9 (i : grid0.Coords) : Fin 3 → Nat :=
  let c0_i32_5 : BitVec 32 := 0#32
  let arg0 : BitVec 32 := BitVec.ofNat 32 (i 0).val
  let c0_i32_6 : BitVec 32 := 0#32
  ![0, arg0.toNat, 0]
def k0_off10 (i : grid0.Coords) : Fin 2 → Nat :=
  let arg0 : BitVec 32 := BitVec.ofNat 32 (i 0).val
  let c3_i32 : BitVec 32 := 3#32
  let v0 : BitVec 32 := Scalar.remsi arg0 c3_i32
  let c1_i32 : BitVec 32 := 1#32
  ![v0.toNat, 1]
def k0_off11 (i : grid0.Coords) : Fin 3 → Nat :=
  let arg0 : BitVec 32 := BitVec.ofNat 32 (i 0).val
  let c3_i32 : BitVec 32 := 3#32
  let v0 : BitVec 32 := Scalar.remsi arg0 c3_i32
  let c0_i32_7 : BitVec 32 := 0#32
  let c512_i32 : BitVec 32 := 512#32
  ![v0.toNat, 0, 512]
def k0_off12 (i : grid0.Coords) : Fin 3 → Nat :=
  let c0_i32_8 : BitVec 32 := 0#32
  let arg0 : BitVec 32 := BitVec.ofNat 32 (i 0).val
  let c512_i32_9 : BitVec 32 := 512#32
  ![0, arg0.toNat, 512]
def k0_off13 (i : grid0.Coords) : Fin 3 → Nat :=
  let arg0 : BitVec 32 := BitVec.ofNat 32 (i 0).val
  let c3_i32 : BitVec 32 := 3#32
  let v0 : BitVec 32 := Scalar.remsi arg0 c3_i32
  let v20 : Index := Scalar.indexCast v0
  let c0 : Index := 0#32
  let c0_10 : Index := 0#32
  ![v20.toNat, 0, 0]
def k0_cond3 (i : grid0.Coords) : BitVec 1 :=
  let arg0 : BitVec 32 := BitVec.ofNat 32 (i 0).val
  let c3_i32_15 : BitVec 32 := 3#32
  let v30 : BitVec 1 := Scalar.cmpi .sge arg0 c3_i32_15
  let v31 : BitVec 32 := Scalar.extui v30
  let c0_i32_16 : BitVec 32 := 0#32
  let v32 : BitVec 1 := Scalar.cmpi .ne v31 c0_i32_16
  v32

def k0_off14 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off15 (i : grid0.Coords) : Fin 3 → Nat :=
  let c0_i32_63 : BitVec 32 := 0#32
  let arg0 : BitVec 32 := BitVec.ofNat 32 (i 0).val
  let c3_i32_62 : BitVec 32 := 3#32
  let v194 : BitVec 32 := Scalar.subi arg0 c3_i32_62
  let c0_i32_64 : BitVec 32 := 0#32
  ![0, v194.toNat, 0]
def k0_off16 (i : grid0.Coords) : Fin 3 → Nat :=
  let arg0 : BitVec 32 := BitVec.ofNat 32 (i 0).val
  let c3_i32 : BitVec 32 := 3#32
  let v0 : BitVec 32 := Scalar.remsi arg0 c3_i32
  let c0_i32_65 : BitVec 32 := 0#32
  let c0_i32_66 : BitVec 32 := 0#32
  ![v0.toNat, 0, 0]
def k0_off17 (i : grid0.Coords) : Fin 3 → Nat :=
  let arg0 : BitVec 32 := BitVec.ofNat 32 (i 0).val
  let c3_i32 : BitVec 32 := 3#32
  let v0 : BitVec 32 := Scalar.remsi arg0 c3_i32
  let v109 : Index := Scalar.indexCast v0
  let c0_37 : Index := 0#32
  let c0_38 : Index := 0#32
  ![v109.toNat, 0, 0]
def k0_off18 (i : grid0.Coords) : Fin 3 → Nat :=
  let arg0 : BitVec 32 := BitVec.ofNat 32 (i 0).val
  let c3_i32 : BitVec 32 := 3#32
  let v0 : BitVec 32 := Scalar.remsi arg0 c3_i32
  let v145 : Index := Scalar.indexCast v0
  let c0_47 : Index := 0#32
  let c361 : Index := 361#32
  ![v145.toNat, 0, 361]
def k0_off19 (i : grid0.Coords) : Fin 3 → Nat :=
  let arg0 : BitVec 32 := BitVec.ofNat 32 (i 0).val
  let c3_i32 : BitVec 32 := 3#32
  let v0 : BitVec 32 := Scalar.remsi arg0 c3_i32
  let v181 : Index := Scalar.indexCast v0
  let c0_56 : Index := 0#32
  let c722 : Index := 722#32
  ![v181.toNat, 0, 722]
def k0_off20 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off21 (i : grid0.Coords) : Fin 3 → Nat :=
  let c0_i32_57 : BitVec 32 := 0#32
  let arg0 : BitVec 32 := BitVec.ofNat 32 (i 0).val
  let c0_i32_58 : BitVec 32 := 0#32
  ![0, arg0.toNat, 0]
def k0_off22 (i : grid0.Coords) : Fin 3 → Nat :=
  let arg0 : BitVec 32 := BitVec.ofNat 32 (i 0).val
  let c3_i32 : BitVec 32 := 3#32
  let v0 : BitVec 32 := Scalar.remsi arg0 c3_i32
  let c0_i32_59 : BitVec 32 := 0#32
  let c0_i32_60 : BitVec 32 := 0#32
  ![v0.toNat, 0, 0]
def k0_cond4 (i : grid0.Coords) : BitVec 1 :=
  let arg0 : BitVec 32 := BitVec.ofNat 32 (i 0).val
  let c31_i32 : BitVec 32 := 31#32
  let v191 : BitVec 1 := Scalar.cmpi .eq arg0 c31_i32
  let v192 : BitVec 32 := Scalar.extui v191
  let c0_i32_61 : BitVec 32 := 0#32
  let v193 : BitVec 1 := Scalar.cmpi .ne v192 c0_i32_61
  v193

def k0_off23 (i : grid0.Coords) (c0_i32_65 : BitVec 32) : Fin 1 → Nat :=
  let arg0 : BitVec 32 := BitVec.ofNat 32 (i 0).val
  let c1_i32_64 : BitVec 32 := 1#32
  let v196 : BitVec 32 := Scalar.subi arg0 c1_i32_64
  let v197 : BitVec 32 := Scalar.subi v196 c0_i32_65
  let c3_i32_66 : BitVec 32 := 3#32
  let v198 : BitVec 32 := Scalar.remsi v197 c3_i32_66
  ![v198.toNat]
def k0_off24 (i : grid0.Coords) (c0_i32_63 : BitVec 32) : Fin 3 → Nat :=
  let c0_i32_67 : BitVec 32 := 0#32
  let arg0 : BitVec 32 := BitVec.ofNat 32 (i 0).val
  let c1_i32_62 : BitVec 32 := 1#32
  let v194 : BitVec 32 := Scalar.subi arg0 c1_i32_62
  let v195 : BitVec 32 := Scalar.subi v194 c0_i32_63
  let c0_i32_68 : BitVec 32 := 0#32
  ![0, v195.toNat, 0]
def k0_off25 (i : grid0.Coords) (c0_i32_65 : BitVec 32) : Fin 3 → Nat :=
  let arg0 : BitVec 32 := BitVec.ofNat 32 (i 0).val
  let c1_i32_64 : BitVec 32 := 1#32
  let v196 : BitVec 32 := Scalar.subi arg0 c1_i32_64
  let v197 : BitVec 32 := Scalar.subi v196 c0_i32_65
  let c3_i32_66 : BitVec 32 := 3#32
  let v198 : BitVec 32 := Scalar.remsi v197 c3_i32_66
  let c0_i32_69 : BitVec 32 := 0#32
  let c0_i32_70 : BitVec 32 := 0#32
  ![v198.toNat, 0, 0]
def k0_off26 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off27 (i : grid0.Coords) : Fin 3 → Nat :=
  let c0_i32_80 : BitVec 32 := 0#32
  let arg0 : BitVec 32 := BitVec.ofNat 32 (i 0).val
  let c0_i32_81 : BitVec 32 := 0#32
  ![0, arg0.toNat, 0]
def k0_off28 (i : grid0.Coords) : Fin 3 → Nat :=
  let arg0 : BitVec 32 := BitVec.ofNat 32 (i 0).val
  let c3_i32 : BitVec 32 := 3#32
  let v0 : BitVec 32 := Scalar.remsi arg0 c3_i32
  let c0_i32_82 : BitVec 32 := 0#32
  let c0_i32_83 : BitVec 32 := 0#32
  ![v0.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2040x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32x1024x19x19 : Shape := ⟨4, ![32, 1024, 19, 19]⟩
abbrev S255x1024x1x1 : Shape := ⟨4, ![255, 1024, 1, 1]⟩
abbrev S255 : Shape := ⟨1, ![255]⟩
abbrev S3x2 : Shape := ⟨2, ![3, 2]⟩
abbrev S255x1024 : Shape := ⟨2, ![255, 1024]⟩
abbrev S255x32x19x19 : Shape := ⟨4, ![255, 32, 19, 19]⟩
abbrev S32x255x19x19 : Shape := ⟨4, ![32, 255, 19, 19]⟩
abbrev S1x255x1x1 : Shape := ⟨4, ![1, 255, 1, 1]⟩
abbrev S32x3x85x19x19 : Shape := ⟨5, ![32, 3, 85, 19, 19]⟩
abbrev S32x3x19x19x85 : Shape := ⟨5, ![32, 3, 19, 19, 85]⟩
abbrev S32x3x19x19x1 : Shape := ⟨5, ![32, 3, 19, 19, 1]⟩
abbrev S32x3x19x19 : Shape := ⟨4, ![32, 3, 19, 19]⟩
abbrev S_ : Shape := ⟨0, ![]⟩
abbrev S32x3x19x19x80 : Shape := ⟨5, ![32, 3, 19, 19, 80]⟩
abbrev S19 : Shape := ⟨1, ![19]⟩
abbrev S19x19 : Shape := ⟨2, ![19, 19]⟩
abbrev S1x1x19x19 : Shape := ⟨4, ![1, 1, 19, 19]⟩
abbrev S3x1 : Shape := ⟨2, ![3, 1]⟩
abbrev S3 : Shape := ⟨1, ![3]⟩
abbrev S1x3x1x1 : Shape := ⟨4, ![1, 3, 1, 1]⟩
abbrev S32x3x19x19x4 : Shape := ⟨5, ![32, 3, 19, 19, 4]⟩
abbrev S32x1083x85 : Shape := ⟨3, ![32, 1083, 85]⟩

abbrev nBuf : Space → Nat
  | .hbm => 88
  | .vmem => 0
  | .smem => 0
  | _ => 0

abbrev bufTy : (tb : Table) → Fin (tcTables nBuf tb) → BufTy
  | .hbm, ⟨0, _⟩ => ⟨S32x1024x19x19, .f32⟩
  | .hbm, ⟨1, _⟩ => ⟨S255x1024x1x1, .f32⟩
  | .hbm, ⟨2, _⟩ => ⟨S255, .f32⟩
  | .hbm, ⟨3, _⟩ => ⟨S3x2, .f32⟩
  | .hbm, ⟨4, _⟩ => ⟨S255x1024, .f32⟩
  | .hbm, ⟨5, _⟩ => ⟨S255x32x19x19, .f32⟩
  | .hbm, ⟨6, _⟩ => ⟨S32x255x19x19, .f32⟩
  | .hbm, ⟨7, _⟩ => ⟨S1x255x1x1, .f32⟩
  | .hbm, ⟨8, _⟩ => ⟨S32x255x19x19, .f32⟩
  | .hbm, ⟨9, _⟩ => ⟨S32x255x19x19, .f32⟩
  | .hbm, ⟨10, _⟩ => ⟨S32x3x85x19x19, .f32⟩
  | .hbm, ⟨11, _⟩ => ⟨S32x3x19x19x85, .f32⟩
  | .hbm, ⟨12, _⟩ => ⟨S32x3x19x19x1, .f32⟩
  | .hbm, ⟨13, _⟩ => ⟨S32x3x19x19, .f32⟩
  | .hbm, ⟨14, _⟩ => ⟨S32x3x19x19, .f32⟩
  | .hbm, ⟨15, _⟩ => ⟨S32x3x19x19, .f32⟩
  | .hbm, ⟨16, _⟩ => ⟨S_, .f32⟩
  | .hbm, ⟨17, _⟩ => ⟨S32x3x19x19, .f32⟩
  | .hbm, ⟨18, _⟩ => ⟨S32x3x19x19, .f32⟩
  | .hbm, ⟨19, _⟩ => ⟨S_, .f32⟩
  | .hbm, ⟨20, _⟩ => ⟨S32x3x19x19, .f32⟩
  | .hbm, ⟨21, _⟩ => ⟨S32x3x19x19, .f32⟩
  | .hbm, ⟨22, _⟩ => ⟨S32x3x19x19x1, .f32⟩
  | .hbm, ⟨23, _⟩ => ⟨S32x3x19x19, .f32⟩
  | .hbm, ⟨24, _⟩ => ⟨S32x3x19x19, .f32⟩
  | .hbm, ⟨25, _⟩ => ⟨S32x3x19x19, .f32⟩
  | .hbm, ⟨26, _⟩ => ⟨S_, .f32⟩
  | .hbm, ⟨27, _⟩ => ⟨S32x3x19x19, .f32⟩
  | .hbm, ⟨28, _⟩ => ⟨S32x3x19x19, .f32⟩
  | .hbm, ⟨29, _⟩ => ⟨S_, .f32⟩
  | .hbm, ⟨30, _⟩ => ⟨S32x3x19x19, .f32⟩
  | .hbm, ⟨31, _⟩ => ⟨S32x3x19x19, .f32⟩
  | .hbm, ⟨32, _⟩ => ⟨S32x3x19x19x1, .f32⟩
  | .hbm, ⟨33, _⟩ => ⟨S32x3x19x19, .f32⟩
  | .hbm, ⟨34, _⟩ => ⟨S32x3x19x19x1, .f32⟩
  | .hbm, ⟨35, _⟩ => ⟨S32x3x19x19, .f32⟩
  | .hbm, ⟨36, _⟩ => ⟨S32x3x19x19x1, .f32⟩
  | .hbm, ⟨37, _⟩ => ⟨S32x3x19x19, .f32⟩
  | .hbm, ⟨38, _⟩ => ⟨S32x3x19x19, .f32⟩
  | .hbm, ⟨39, _⟩ => ⟨S32x3x19x19, .f32⟩
  | .hbm, ⟨40, _⟩ => ⟨S_, .f32⟩
  | .hbm, ⟨41, _⟩ => ⟨S32x3x19x19, .f32⟩
  | .hbm, ⟨42, _⟩ => ⟨S32x3x19x19, .f32⟩
  | .hbm, ⟨43, _⟩ => ⟨S_, .f32⟩
  | .hbm, ⟨44, _⟩ => ⟨S32x3x19x19, .f32⟩
  | .hbm, ⟨45, _⟩ => ⟨S32x3x19x19, .f32⟩
  | .hbm, ⟨46, _⟩ => ⟨S32x3x19x19x80, .f32⟩
  | .hbm, ⟨47, _⟩ => ⟨S32x3x19x19x80, .f32⟩
  | .hbm, ⟨48, _⟩ => ⟨S32x3x19x19x80, .f32⟩
  | .hbm, ⟨49, _⟩ => ⟨S_, .f32⟩
  | .hbm, ⟨50, _⟩ => ⟨S32x3x19x19x80, .f32⟩
  | .hbm, ⟨51, _⟩ => ⟨S32x3x19x19x80, .f32⟩
  | .hbm, ⟨52, _⟩ => ⟨S_, .f32⟩
  | .hbm, ⟨53, _⟩ => ⟨S32x3x19x19x80, .f32⟩
  | .hbm, ⟨54, _⟩ => ⟨S32x3x19x19x80, .f32⟩
  | .hbm, ⟨55, _⟩ => ⟨S19, .f32⟩
  | .hbm, ⟨56, _⟩ => ⟨S19, .f32⟩
  | .hbm, ⟨57, _⟩ => ⟨S19x19, .f32⟩
  | .hbm, ⟨58, _⟩ => ⟨S19x19, .f32⟩
  | .hbm, ⟨59, _⟩ => ⟨S1x1x19x19, .f32⟩
  | .hbm, ⟨60, _⟩ => ⟨S32x3x19x19, .f32⟩
  | .hbm, ⟨61, _⟩ => ⟨S32x3x19x19, .f32⟩
  | .hbm, ⟨62, _⟩ => ⟨S1x1x19x19, .f32⟩
  | .hbm, ⟨63, _⟩ => ⟨S32x3x19x19, .f32⟩
  | .hbm, ⟨64, _⟩ => ⟨S32x3x19x19, .f32⟩
  | .hbm, ⟨65, _⟩ => ⟨S32x3x19x19, .f32⟩
  | .hbm, ⟨66, _⟩ => ⟨S3x1, .f32⟩
  | .hbm, ⟨67, _⟩ => ⟨S3, .f32⟩
  | .hbm, ⟨68, _⟩ => ⟨S1x3x1x1, .f32⟩
  | .hbm, ⟨69, _⟩ => ⟨S32x3x19x19, .f32⟩
  | .hbm, ⟨70, _⟩ => ⟨S32x3x19x19, .f32⟩
  | .hbm, ⟨71, _⟩ => ⟨S32x3x19x19, .f32⟩
  | .hbm, ⟨72, _⟩ => ⟨S3x1, .f32⟩
  | .hbm, ⟨73, _⟩ => ⟨S3, .f32⟩
  | .hbm, ⟨74, _⟩ => ⟨S1x3x1x1, .f32⟩
  | .hbm, ⟨75, _⟩ => ⟨S32x3x19x19, .f32⟩
  | .hbm, ⟨76, _⟩ => ⟨S32x3x19x19, .f32⟩
  | .hbm, ⟨77, _⟩ => ⟨S32x3x19x19x1, .f32⟩
  | .hbm, ⟨78, _⟩ => ⟨S32x3x19x19x1, .f32⟩
  | .hbm, ⟨79, _⟩ => ⟨S32x3x19x19x1, .f32⟩
  | .hbm, ⟨80, _⟩ => ⟨S32x3x19x19x1, .f32⟩
  | .hbm, ⟨81, _⟩ => ⟨S32x3x19x19x4, .f32⟩
  | .hbm, ⟨82, _⟩ => ⟨S_, .f32⟩
  | .hbm, ⟨83, _⟩ => ⟨S32x3x19x19x4, .f32⟩
  | .hbm, ⟨84, _⟩ => ⟨S32x3x19x19x4, .f32⟩
  | .hbm, ⟨85, _⟩ => ⟨S32x3x19x19x1, .f32⟩
  | .hbm, ⟨86, _⟩ => ⟨S32x3x19x19x85, .f32⟩
  | .hbm, ⟨87, _⟩ => ⟨S32x1083x85, .f32⟩
  | _, _ => ⟨S32x1024x19x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩

abbrev nD : Nat := 1
abbrev τ : Topo := Topo.v7x

variable {F : FTy → Type} [FloatOps F]
-- ==== Proof.Names.lean ====
/- What the streamed kernel moves, named: the halves of its input slots, the halves of the input's blocks, the tiles of its
   output scratch, the pieces of its output, and the semaphores its copies are counted on; and the equations that spell the
   operands of the printed body, at a grid point, by those names. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's conditions over the grid -/

/-- The condition on the first point: the body starts the first copies and fills its weight scratch. -/
abbrev isFirst (i : grid0.Coords) : Prop := (Scalar.cmpi .ne (Scalar.extui (Scalar.cmpi .eq (BitVec.ofNat 32 (i 0).val) 0#32)) 0#32) = 1#1
/-- The condition that the block two ahead exists: the body starts its copies. -/
abbrev issues (i : grid0.Coords) : Prop := k0_cond2 i = 1#1
/-- The condition that the slot to write holds an earlier block: the body waits that block's copy out. -/
abbrev refills (i : grid0.Coords) : Prop := k0_cond3 i = 1#1
/-- The condition on the last point: the body waits for the copies still under way. -/
abbrev isLast (i : grid0.Coords) : Prop := k0_cond4 i = 1#1

/-- The first point is point 0. -/
theorem isFirst_iff : ∀ t : Fin grid0.N, isFirst (grid0.coords t) ↔ t.val = 0 := by decide +kernel
/-- Copies are started before point 30. -/
theorem issues_iff : ∀ t : Fin grid0.N, issues (grid0.coords t) ↔ t.val < 30 := by decide +kernel
/-- Slots are refilled from point 3 on. -/
theorem refills_iff : ∀ t : Fin grid0.N, refills (grid0.coords t) ↔ 3 ≤ t.val := by decide +kernel
/-- The last point is point 31. -/
theorem isLast_iff : ∀ t : Fin grid0.N, isLast (grid0.coords t) ↔ t.val = 31 := by decide +kernel

instance : NeZero grid0.N := ⟨by rw [N_0]; decide⟩

/-! ## The buffers -/

/-- The staging buffer of the weights, at a point, -/
abbrev msW (t : Fin cfg0.N) : Memref sig .tc .vmem S2040x128 .f32 := win0_0.stage (cfg0.slots t 0)
abbrev hsW (t : Fin cfg0.N) : (msW t).IsWhole := hstage0_0 ((cfg0.slots t 0).cast nbuf0_0)
/-- and of the bias. -/
abbrev msB (t : Fin cfg0.N) : Memref sig .tc .vmem S384x1 .f32 := win0_1.stage (cfg0.slots t 1)
abbrev hsB (t : Fin cfg0.N) : (msB t).IsWhole := hstage0_1 ((cfg0.slots t 1).cast nbuf0_1)
/-- The input scratch (three slots), the output scratch (three tiles), the weight scratch, the input and the output. -/
abbrev xM : Memref sig .tc .vmem S3x361x1024 .f32 := Memref.whole cc0_scratch0
abbrev oM : Memref sig .tc .vmem S3x85x1083 .f32 := Memref.whole cc0_scratch1
abbrev wM : Memref sig .tc .vmem S384x1024 .bf16 := Memref.whole cc0_scratch2
abbrev inM : Memref sig .tc .hbm S361x32x1024 .f32 := Memref.whole main_v1
abbrev outM : Memref sig .tc .hbm S85x32x1083 .f32 := Memref.whole main_v6

/-- The contents type of the buffer under a memref, on core `c`. -/
abbrev BufOf (c : Dev nD) {sp : Space} {S : Shape} {e : EltTy} (M : Memref sig .tc sp S e) : Type := Buf (Elt F) (M.view.loc (c : Thread nD τ))
/-- The buffer under a memref held whole at contents `f`. -/
abbrev wholeAt (c : Dev nD) {sp : Space} {S : Shape} {e : EltTy} (M : Memref sig .tc sp S e) (f : BufOf (F := F) c M) : sProp 𝕄 :=
  M.view.loc (c : Thread nD τ) ↦{fullShare} f

theorem inb_half (s : Fin 3) (h : Fin 2) : ∀ a, (![s.val, 0, 512 * h.val] : Fin 3 → Nat) a + S1x361x512.size a ≤ S3x361x1024.size a := by
  have := s.isLt; have := h.isLt; intro a; fin_cases a <;> simp <;> omega
theorem inb_slot (s : Fin 3) : ∀ a, (![s.val, 0, 0] : Fin 3 → Nat) a + S1x361x1024.size a ≤ S3x361x1024.size a := by
  have := s.isLt; intro a; fin_cases a <;> simp <;> omega
theorem inb_src (b : Fin 32) (h : Fin 2) : ∀ a, (![0, b.val, 512 * h.val] : Fin 3 → Nat) a + S361x1x512.size a ≤ S361x32x1024.size a := by
  have := b.isLt; have := h.isLt; intro a; fin_cases a <;> simp <;> omega
theorem inb_cell (s : Fin 3) (h : Fin 2) : ∀ a, (![s.val, h.val] : Fin 2 → Nat) a + S1x1.size a ≤ S3x2.size a := by
  have := s.isLt; have := h.isLt; intro a; fin_cases a <;> simp <;> omega
theorem inb_tile (s : Fin 3) : ∀ a, (![s.val, 0, 0] : Fin 3 → Nat) a + S1x85x1083.size a ≤ S3x85x1083.size a := by
  have := s.isLt; intro a; fin_cases a <;> simp <;> omega
theorem inb_piece (u : Fin 32) : ∀ a, (![0, u.val, 0] : Fin 3 → Nat) a + S85x1x1083.size a ≤ S85x32x1083.size a := by
  have := u.isLt; intro a; fin_cases a <;> simp <;> omega
theorem inb_wcell (s : Fin 3) : ∀ a, (![s.val] : Fin 1 → Nat) a + S1.size a ≤ S3.size a := by
  have := s.isLt; intro a; fin_cases a <;> simp <;> omega

/-- Half `h` of input slot `s`: the channels from `512 h`. -/
def half (s : Fin 3) (h : Fin 2) : Memref sig .tc .vmem S361x512 .f32 :=
  (xM.slice (Rect.unit (s := S3x361x1024) ![s.val, 0, 512 * h.val] S1x361x512.size (inb_half s h)) (fun _ => rfl)).squeeze S361x512 squeezes_S1x361x512_S361x512
/-- Input slot `s`, both halves. -/
def slot (s : Fin 3) : Memref sig .tc .vmem S1x361x1024 .f32 :=
  xM.slice (Rect.unit (s := S3x361x1024) ![s.val, 0, 0] S1x361x1024.size (inb_slot s)) (fun _ => rfl)
/-- Half `h` of block `b` of the input. -/
def src (b : Fin 32) (h : Fin 2) : Memref sig .tc .hbm S361x512 .f32 :=
  (inM.slice (Rect.unit (s := S361x32x1024) ![0, b.val, 512 * h.val] S361x1x512.size (inb_src b h)) (fun _ => rfl)).squeeze S361x512 squeezes_S361x1x512_S361x512
/-- The semaphore on which the copy into half `h` of slot `s` is counted. -/
def cell (s : Fin 3) (h : Fin 2) : DmaSems sig S_ := (cc0_scratch3.slice (Rect.unit (s := S3x2) ![s.val, h.val] S1x1.size (inb_cell s h))).squeeze S_ squeezes_S1x1_S_
abbrev cellL (s : Fin 3) (h : Fin 2) : SemLoc sig := SemLoc.dma (cell s h).sem
/-- Tile `s` of the output scratch. -/
def tile (s : Fin 3) : Memref sig .tc .vmem S85x1083 .f32 :=
  (oM.slice (Rect.unit (s := S3x85x1083) ![s.val, 0, 0] S1x85x1083.size (inb_tile s)) (fun _ => rfl)).squeeze S85x1083 squeezes_S1x85x1083_S85x1083
/-- Piece `u` of the output: block `u`'s result. -/
def piece (u : Fin 32) : Memref sig .tc .hbm S85x1083 .f32 :=
  (outM.slice (Rect.unit (s := S85x32x1083) ![0, u.val, 0] S85x1x1083.size (inb_piece u)) (fun _ => rfl)).squeeze S85x1083 squeezes_S85x1x1083_S85x1083
/-- The semaphore on which the copy out of tile `s` is counted. -/
def wcell (s : Fin 3) : DmaSems sig S_ := (cc0_scratch4.slice (Rect.unit (s := S3) ![s.val] S1.size (inb_wcell s))).squeeze S_ squeezes_S1_S_
abbrev wcellL (s : Fin 3) : SemLoc sig := SemLoc.dma (wcell s).sem

/-- The semaphores' numbers. -/
theorem cellL_eq : ∀ (s : Fin 3) (h : Fin 2), cellL s h = SemLoc.dma ⟨2 + 2 * s.val + h.val, by have := s.isLt; have := h.isLt; show _ < 11; omega⟩ := by decide
theorem wcellL_eq : ∀ s : Fin 3, wcellL s = SemLoc.dma ⟨8 + s.val, by have := s.isLt; show _ < 11; omega⟩ := by decide

/-! ## The printed operands are the named ones -/

omit [FloatOps F] in
/-- A slice of the input scratch at the offsets of half `h` of slot `s` is that half, and the same for the other buffers. -/
theorem half_of {o : Fin 3 → ℕ} {s : Fin 3} {h : Fin 2} (e : o = ![s.val, 0, 512 * h.val]) (i : ∀ a, o a + S1x361x512.size a ≤ S3x361x1024.size a) :
    (xM.slice (Rect.unit (s := S3x361x1024) o S1x361x512.size i) (fun _ => rfl)).squeeze S361x512 squeezes_S1x361x512_S361x512 = half s h := by
  subst e; rfl
theorem src_of {o : Fin 3 → ℕ} {b : Fin 32} {h : Fin 2} (e : o = ![0, b.val, 512 * h.val]) (i : ∀ a, o a + S361x1x512.size a ≤ S361x32x1024.size a) :
    (inM.slice (Rect.unit (s := S361x32x1024) o S361x1x512.size i) (fun _ => rfl)).squeeze S361x512 squeezes_S361x1x512_S361x512 = src b h := by
  subst e; rfl
theorem cell_of {o : Fin 2 → ℕ} {s : Fin 3} {h : Fin 2} (e : o = ![s.val, h.val]) (i : ∀ a, o a + S1x1.size a ≤ S3x2.size a) :
    (cc0_scratch3.slice (Rect.unit (s := S3x2) o S1x1.size i)).squeeze S_ squeezes_S1x1_S_ = cell s h := by
  subst e; rfl
theorem tile_of {o : Fin 3 → ℕ} {s : Fin 3} (e : o = ![s.val, 0, 0]) (i : ∀ a, o a + S1x85x1083.size a ≤ S3x85x1083.size a) :
    (oM.slice (Rect.unit (s := S3x85x1083) o S1x85x1083.size i) (fun _ => rfl)).squeeze S85x1083 squeezes_S1x85x1083_S85x1083 = tile s := by
  subst e; rfl
theorem piece_of {o : Fin 3 → ℕ} {u : Fin 32} (e : o = ![0, u.val, 0]) (i : ∀ a, o a + S85x1x1083.size a ≤ S85x32x1083.size a) :
    (outM.slice (Rect.unit (s := S85x32x1083) o S85x1x1083.size i) (fun _ => rfl)).squeeze S85x1083 squeezes_S85x1x1083_S85x1083 = piece u := by
  subst e; rfl
theorem wcell_of {o : Fin 1 → ℕ} {s : Fin 3} (e : o = ![s.val]) (i : ∀ a, o a + S1.size a ≤ S3.size a) :
    (cc0_scratch4.slice (Rect.unit (s := S3) o S1.size i)).squeeze S_ squeezes_S1_S_ = wcell s := by
  subst e; rfl

section Canon
set_option synthInstance.maxSize 4096

/-! The first point's copies. -/

theorem first_off : ∀ t : Fin grid0.N, isFirst (grid0.coords t) →
    (Ring.sl 3 t.val).val = 0 ∧ (Ring.sl 3 (t.val + 1)).val = 1 ∧ (Ring.bk 32 t.val).val = 0 ∧ (Ring.bk 32 (t.val + 1)).val = 1 := by decide +kernel

@[sl_canon] theorem canonF1 (t : Fin grid0.N) (h : isFirst (grid0.coords t)) :
    (xM.slice (Rect.unit (s := S3x361x1024) ![0, 0, 0] S1x361x512.size inb_S3x361x1024_S1x361x512_0_0_0) (fun _ => rfl)).squeeze S361x512 squeezes_S1x361x512_S361x512 = half (Ring.sl 3 t.val) 0 :=
  half_of (by rw [(first_off t h).1]; rfl) _
@[sl_canon] theorem canonF2 (t : Fin grid0.N) (h : isFirst (grid0.coords t)) :
    (xM.slice (Rect.unit (s := S3x361x1024) ![1, 0, 0] S1x361x512.size inb_S3x361x1024_S1x361x512_1_0_0) (fun _ => rfl)).squeeze S361x512 squeezes_S1x361x512_S361x512 = half (Ring.sl 3 (t.val + 1)) 0 :=
  half_of (by rw [(first_off t h).2.1]; rfl) _
@[sl_canon] theorem canonF3 (t : Fin grid0.N) (h : isFirst (grid0.coords t)) :
    (xM.slice (Rect.unit (s := S3x361x1024) ![0, 0, 512] S1x361x512.size inb_S3x361x1024_S1x361x512_0_0_512) (fun _ => rfl)).squeeze S361x512 squeezes_S1x361x512_S361x512 = half (Ring.sl 3 t.val) 1 :=
  half_of (by rw [(first_off t h).1]; rfl) _
@[sl_canon] theorem canonF4 (t : Fin grid0.N) (h : isFirst (grid0.coords t)) :
    (xM.slice (Rect.unit (s := S3x361x1024) ![1, 0, 512] S1x361x512.size inb_S3x361x1024_S1x361x512_1_0_512) (fun _ => rfl)).squeeze S361x512 squeezes_S1x361x512_S361x512 = half (Ring.sl 3 (t.val + 1)) 1 :=
  half_of (by rw [(first_off t h).2.1]; rfl) _
@[sl_canon] theorem canonF5 (t : Fin grid0.N) (h : isFirst (grid0.coords t)) :
    (inM.slice (Rect.unit (s := S361x32x1024) ![0, 0, 0] S361x1x512.size inb_S361x32x1024_S361x1x512_0_0_0) (fun _ => rfl)).squeeze S361x512 squeezes_S361x1x512_S361x512 = src (Ring.bk 32 t.val) 0 :=
  src_of (by rw [(first_off t h).2.2.1]; rfl) _
@[sl_canon] theorem canonF6 (t : Fin grid0.N) (h : isFirst (grid0.coords t)) :
    (inM.slice (Rect.unit (s := S361x32x1024) ![0, 1, 0] S361x1x512.size inb_S361x32x1024_S361x1x512_0_1_0) (fun _ => rfl)).squeeze S361x512 squeezes_S361x1x512_S361x512 = src (Ring.bk 32 (t.val + 1)) 0 :=
  src_of (by rw [(first_off t h).2.2.2]; rfl) _
@[sl_canon] theorem canonF7 (t : Fin grid0.N) (h : isFirst (grid0.coords t)) :
    (inM.slice (Rect.unit (s := S361x32x1024) ![0, 0, 512] S361x1x512.size inb_S361x32x1024_S361x1x512_0_0_512) (fun _ => rfl)).squeeze S361x512 squeezes_S361x1x512_S361x512 = src (Ring.bk 32 t.val) 1 :=
  src_of (by rw [(first_off t h).2.2.1]; rfl) _
@[sl_canon] theorem canonF8 (t : Fin grid0.N) (h : isFirst (grid0.coords t)) :
    (inM.slice (Rect.unit (s := S361x32x1024) ![0, 1, 512] S361x1x512.size inb_S361x32x1024_S361x1x512_0_1_512) (fun _ => rfl)).squeeze S361x512 squeezes_S361x1x512_S361x512 = src (Ring.bk 32 (t.val + 1)) 1 :=
  src_of (by rw [(first_off t h).2.2.2]; rfl) _
@[sl_canon] theorem canonF9 (t : Fin grid0.N) (h : isFirst (grid0.coords t)) :
    (cc0_scratch3.slice (Rect.unit (s := S3x2) ![0, 0] S1x1.size inb_S3x2_S1x1_0_0)).squeeze S_ squeezes_S1x1_S_ = cell (Ring.sl 3 t.val) 0 :=
  cell_of (by rw [(first_off t h).1]; rfl) _
@[sl_canon] theorem canonF10 (t : Fin grid0.N) (h : isFirst (grid0.coords t)) :
    (cc0_scratch3.slice (Rect.unit (s := S3x2) ![1, 0] S1x1.size inb_S3x2_S1x1_1_0)).squeeze S_ squeezes_S1x1_S_ = cell (Ring.sl 3 (t.val + 1)) 0 :=
  cell_of (by rw [(first_off t h).2.1]; rfl) _
@[sl_canon] theorem canonF11 (t : Fin grid0.N) (h : isFirst (grid0.coords t)) :
    (cc0_scratch3.slice (Rect.unit (s := S3x2) ![0, 1] S1x1.size inb_S3x2_S1x1_0_1)).squeeze S_ squeezes_S1x1_S_ = cell (Ring.sl 3 t.val) 1 :=
  cell_of (by rw [(first_off t h).1]; rfl) _
@[sl_canon] theorem canonF12 (t : Fin grid0.N) (h : isFirst (grid0.coords t)) :
    (cc0_scratch3.slice (Rect.unit (s := S3x2) ![1, 1] S1x1.size inb_S3x2_S1x1_1_1)).squeeze S_ squeezes_S1x1_S_ = cell (Ring.sl 3 (t.val + 1)) 1 :=
  cell_of (by rw [(first_off t h).2.1]; rfl) _

/-! The copies of the block two ahead. -/

theorem off1_eq : ∀ t : Fin grid0.N, k0_off1 (grid0.coords t) = ![(Ring.sl 3 (t.val + 2)).val, (0 : Fin 2).val] := by decide +kernel
theorem off2_eq : ∀ t : Fin grid0.N, k0_off2 (grid0.coords t) = ![(Ring.sl 3 (t.val + 2)).val, 0, 512 * (0 : Fin 2).val] := by decide +kernel
theorem off3_eq : ∀ t : Fin grid0.N, issues (grid0.coords t) → k0_off3 (grid0.coords t) = ![0, (Ring.bk 32 (t.val + 2)).val, 512 * (0 : Fin 2).val] := by decide +kernel
theorem off4_eq : ∀ t : Fin grid0.N, k0_off4 (grid0.coords t) = ![(Ring.sl 3 (t.val + 2)).val, (1 : Fin 2).val] := by decide +kernel
theorem off5_eq : ∀ t : Fin grid0.N, k0_off5 (grid0.coords t) = ![(Ring.sl 3 (t.val + 2)).val, 0, 512 * (1 : Fin 2).val] := by decide +kernel
theorem off6_eq : ∀ t : Fin grid0.N, issues (grid0.coords t) → k0_off6 (grid0.coords t) = ![0, (Ring.bk 32 (t.val + 2)).val, 512 * (1 : Fin 2).val] := by decide +kernel

@[sl_canon] theorem canon1 (t : Fin grid0.N) (h : issues (grid0.coords t)) :
    (cc0_scratch3.slice (Rect.unit (s := S3x2) (k0_off1 (grid0.coords t)) S1x1.size (k0_off1_inb (grid0.coords t) h))).squeeze S_ squeezes_S1x1_S_ = cell (Ring.sl 3 (t.val + 2)) 0 :=
  cell_of (off1_eq t) _
@[sl_canon] theorem canon2 (t : Fin grid0.N) (h : issues (grid0.coords t)) :
    (xM.slice (Rect.unit (s := S3x361x1024) (k0_off2 (grid0.coords t)) S1x361x512.size (k0_off2_inb (grid0.coords t) h)) (fun _ => rfl)).squeeze S361x512 squeezes_S1x361x512_S361x512 = half (Ring.sl 3 (t.val + 2)) 0 :=
  half_of (off2_eq t) _
@[sl_canon] theorem canon3 (t : Fin grid0.N) (h : issues (grid0.coords t)) :
    (inM.slice (Rect.unit (s := S361x32x1024) (k0_off3 (grid0.coords t)) S361x1x512.size (k0_off3_inb (grid0.coords t) h)) (fun _ => rfl)).squeeze S361x512 squeezes_S361x1x512_S361x512 = src (Ring.bk 32 (t.val + 2)) 0 :=
  src_of (off3_eq t h) _
@[sl_canon] theorem canon4 (t : Fin grid0.N) (h : issues (grid0.coords t)) :
    (cc0_scratch3.slice (Rect.unit (s := S3x2) (k0_off4 (grid0.coords t)) S1x1.size (k0_off4_inb (grid0.coords t) h))).squeeze S_ squeezes_S1x1_S_ = cell (Ring.sl 3 (t.val + 2)) 1 :=
  cell_of (off4_eq t) _
@[sl_canon] theorem canon5 (t : Fin grid0.N) (h : issues (grid0.coords t)) :
    (xM.slice (Rect.unit (s := S3x361x1024) (k0_off5 (grid0.coords t)) S1x361x512.size (k0_off5_inb (grid0.coords t) h)) (fun _ => rfl)).squeeze S361x512 squeezes_S1x361x512_S361x512 = half (Ring.sl 3 (t.val + 2)) 1 :=
  half_of (off5_eq t) _
@[sl_canon] theorem canon6 (t : Fin grid0.N) (h : issues (grid0.coords t)) :
    (inM.slice (Rect.unit (s := S361x32x1024) (k0_off6 (grid0.coords t)) S361x1x512.size (k0_off6_inb (grid0.coords t) h)) (fun _ => rfl)).squeeze S361x512 squeezes_S361x1x512_S361x512 = src (Ring.bk 32 (t.val + 2)) 1 :=
  src_of (off6_eq t h) _

/-! The waits for the point's own block, and the load of its slot. -/

theorem off7_eq : ∀ t : Fin grid0.N, k0_off7 (grid0.coords t) = ![(Ring.sl 3 t.val).val, (0 : Fin 2).val] := by decide +kernel
theorem off8_eq : ∀ t : Fin grid0.N, k0_off8 (grid0.coords t) = ![(Ring.sl 3 t.val).val, 0, 512 * (0 : Fin 2).val] := by decide +kernel
theorem off9_eq : ∀ t : Fin grid0.N, k0_off9 (grid0.coords t) = ![0, (Ring.bk 32 t.val).val, 512 * (0 : Fin 2).val] := by decide +kernel
theorem off10_eq : ∀ t : Fin grid0.N, k0_off10 (grid0.coords t) = ![(Ring.sl 3 t.val).val, (1 : Fin 2).val] := by decide +kernel
theorem off11_eq : ∀ t : Fin grid0.N, k0_off11 (grid0.coords t) = ![(Ring.sl 3 t.val).val, 0, 512 * (1 : Fin 2).val] := by decide +kernel
theorem off12_eq : ∀ t : Fin grid0.N, k0_off12 (grid0.coords t) = ![0, (Ring.bk 32 t.val).val, 512 * (1 : Fin 2).val] := by decide +kernel
theorem off13_eq : ∀ t : Fin grid0.N, k0_off13 (grid0.coords t) = ![(Ring.sl 3 t.val).val, 0, 0] := by decide +kernel

@[sl_canon] theorem canon7 (t : Fin grid0.N) :
    (cc0_scratch3.slice (Rect.unit (s := S3x2) (k0_off7 (grid0.coords t)) S1x1.size (k0_off7_inb (grid0.coords t)))).squeeze S_ squeezes_S1x1_S_ = cell (Ring.sl 3 t.val) 0 :=
  cell_of (off7_eq t) _
@[sl_canon] theorem canon8 (t : Fin grid0.N) :
    (xM.slice (Rect.unit (s := S3x361x1024) (k0_off8 (grid0.coords t)) S1x361x512.size (k0_off8_inb (grid0.coords t))) (fun _ => rfl)).squeeze S361x512 squeezes_S1x361x512_S361x512 = half (Ring.sl 3 t.val) 0 :=
  half_of (off8_eq t) _
@[sl_canon] theorem canon9 (t : Fin grid0.N) :
    (inM.slice (Rect.unit (s := S361x32x1024) (k0_off9 (grid0.coords t)) S361x1x512.size (k0_off9_inb (grid0.coords t))) (fun _ => rfl)).squeeze S361x512 squeezes_S361x1x512_S361x512 = src (Ring.bk 32 t.val) 0 :=
  src_of (off9_eq t) _
@[sl_canon] theorem canon10 (t : Fin grid0.N) :
    (cc0_scratch3.slice (Rect.unit (s := S3x2) (k0_off10 (grid0.coords t)) S1x1.size (k0_off10_inb (grid0.coords t)))).squeeze S_ squeezes_S1x1_S_ = cell (Ring.sl 3 t.val) 1 :=
  cell_of (off10_eq t) _
@[sl_canon] theorem canon11 (t : Fin grid0.N) :
    (xM.slice (Rect.unit (s := S3x361x1024) (k0_off11 (grid0.coords t)) S1x361x512.size (k0_off11_inb (grid0.coords t))) (fun _ => rfl)).squeeze S361x512 squeezes_S1x361x512_S361x512 = half (Ring.sl 3 t.val) 1 :=
  half_of (off11_eq t) _
@[sl_canon] theorem canon12 (t : Fin grid0.N) :
    (inM.slice (Rect.unit (s := S361x32x1024) (k0_off12 (grid0.coords t)) S361x1x512.size (k0_off12_inb (grid0.coords t))) (fun _ => rfl)).squeeze S361x512 squeezes_S361x1x512_S361x512 = src (Ring.bk 32 t.val) 1 :=
  src_of (off12_eq t) _
instance (priority := high) closed13 (t : Fin grid0.N) : ClosedOff (k0_off13 (grid0.coords t)) := ⟨![(Ring.sl 3 t.val).val, 0, 0], off13_eq t⟩

/-! The wait that frees the output tile, the stores into it, and the copy out. -/

theorem off14_eq : ∀ t : Fin grid0.N, k0_off14 (grid0.coords t) = ![(Ring.sl 3 t.val).val] := by decide +kernel
theorem off15_eq : ∀ t : Fin grid0.N, refills (grid0.coords t) → k0_off15 (grid0.coords t) = ![0, (Ring.bk 32 (t.val - 3)).val, 0] := by decide +kernel
theorem off16_eq : ∀ t : Fin grid0.N, k0_off16 (grid0.coords t) = ![(Ring.sl 3 t.val).val, 0, 0] := by decide +kernel
theorem off17_eq : ∀ t : Fin grid0.N, k0_off17 (grid0.coords t) = ![(Ring.sl 3 t.val).val, 0, 0] := by decide +kernel
theorem off18_eq : ∀ t : Fin grid0.N, k0_off18 (grid0.coords t) = ![(Ring.sl 3 t.val).val, 0, 361] := by decide +kernel
theorem off19_eq : ∀ t : Fin grid0.N, k0_off19 (grid0.coords t) = ![(Ring.sl 3 t.val).val, 0, 722] := by decide +kernel
theorem off20_eq : ∀ t : Fin grid0.N, k0_off20 (grid0.coords t) = ![(Ring.sl 3 t.val).val] := by decide +kernel
theorem off21_eq : ∀ t : Fin grid0.N, k0_off21 (grid0.coords t) = ![0, (Ring.bk 32 t.val).val, 0] := by decide +kernel
theorem off22_eq : ∀ t : Fin grid0.N, k0_off22 (grid0.coords t) = ![(Ring.sl 3 t.val).val, 0, 0] := by decide +kernel

@[sl_canon] theorem canon14 (t : Fin grid0.N) (h : refills (grid0.coords t)) :
    (cc0_scratch4.slice (Rect.unit (s := S3) (k0_off14 (grid0.coords t)) S1.size (k0_off14_inb (grid0.coords t) h))).squeeze S_ squeezes_S1_S_ = wcell (Ring.sl 3 t.val) :=
  wcell_of (off14_eq t) _
@[sl_canon] theorem canon15 (t : Fin grid0.N) (h : refills (grid0.coords t)) :
    (outM.slice (Rect.unit (s := S85x32x1083) (k0_off15 (grid0.coords t)) S85x1x1083.size (k0_off15_inb (grid0.coords t) h)) (fun _ => rfl)).squeeze S85x1083 squeezes_S85x1x1083_S85x1083 = piece (Ring.bk 32 (t.val - 3)) :=
  piece_of (off15_eq t h) _
@[sl_canon] theorem canon16 (t : Fin grid0.N) (h : refills (grid0.coords t)) :
    (oM.slice (Rect.unit (s := S3x85x1083) (k0_off16 (grid0.coords t)) S1x85x1083.size (k0_off16_inb (grid0.coords t) h)) (fun _ => rfl)).squeeze S85x1083 squeezes_S1x85x1083_S85x1083 = tile (Ring.sl 3 t.val) :=
  tile_of (off16_eq t) _
instance (priority := high) closed17 (t : Fin grid0.N) : ClosedOff (k0_off17 (grid0.coords t)) := ⟨![(Ring.sl 3 t.val).val, 0, 0], off17_eq t⟩
instance (priority := high) closed18 (t : Fin grid0.N) : ClosedOff (k0_off18 (grid0.coords t)) := ⟨![(Ring.sl 3 t.val).val, 0, 361], off18_eq t⟩
instance (priority := high) closed19 (t : Fin grid0.N) : ClosedOff (k0_off19 (grid0.coords t)) := ⟨![(Ring.sl 3 t.val).val, 0, 722], off19_eq t⟩
@[sl_canon] theorem canon20 (t : Fin grid0.N) :
    (cc0_scratch4.slice (Rect.unit (s := S3) (k0_off20 (grid0.coords t)) S1.size (k0_off20_inb (grid0.coords t)))).squeeze S_ squeezes_S1_S_ = wcell (Ring.sl 3 t.val) :=
  wcell_of (off20_eq t) _
@[sl_canon] theorem canon21 (t : Fin grid0.N) :
    (outM.slice (Rect.unit (s := S85x32x1083) (k0_off21 (grid0.coords t)) S85x1x1083.size (k0_off21_inb (grid0.coords t))) (fun _ => rfl)).squeeze S85x1083 squeezes_S85x1x1083_S85x1083 = piece (Ring.bk 32 t.val) :=
  piece_of (off21_eq t) _
@[sl_canon] theorem canon22 (t : Fin grid0.N) :
    (oM.slice (Rect.unit (s := S3x85x1083) (k0_off22 (grid0.coords t)) S1x85x1083.size (k0_off22_inb (grid0.coords t))) (fun _ => rfl)).squeeze S85x1083 squeezes_S1x85x1083_S85x1083 = tile (Ring.sl 3 t.val) :=
  tile_of (off22_eq t) _

/-! The last point's waits. -/

theorem off23_eq : ∀ t : Fin grid0.N, isLast (grid0.coords t) → k0_off23 (grid0.coords t) 0#32 = ![(Ring.sl 3 (t.val + 2)).val] := by decide +kernel
theorem off24_eq : ∀ t : Fin grid0.N, isLast (grid0.coords t) → k0_off24 (grid0.coords t) 0#32 = ![0, (Ring.bk 32 (t.val - 1)).val, 0] := by decide +kernel
theorem off25_eq : ∀ t : Fin grid0.N, isLast (grid0.coords t) → k0_off25 (grid0.coords t) 0#32 = ![(Ring.sl 3 (t.val + 2)).val, 0, 0] := by decide +kernel
theorem off23'_eq : ∀ t : Fin grid0.N, isLast (grid0.coords t) → k0_off23 (grid0.coords t) 1#32 = ![(Ring.sl 3 (t.val + 1)).val] := by decide +kernel
theorem off24'_eq : ∀ t : Fin grid0.N, isLast (grid0.coords t) → k0_off24 (grid0.coords t) 1#32 = ![0, (Ring.bk 32 (t.val - 2)).val, 0] := by decide +kernel
theorem off25'_eq : ∀ t : Fin grid0.N, isLast (grid0.coords t) → k0_off25 (grid0.coords t) 1#32 = ![(Ring.sl 3 (t.val + 1)).val, 0, 0] := by decide +kernel
theorem off26_eq : ∀ t : Fin grid0.N, isLast (grid0.coords t) → k0_off26 (grid0.coords t) = ![(Ring.sl 3 t.val).val] := by decide +kernel
theorem off27_eq : ∀ t : Fin grid0.N, isLast (grid0.coords t) → k0_off27 (grid0.coords t) = ![0, (Ring.bk 32 t.val).val, 0] := by decide +kernel
theorem off28_eq : ∀ t : Fin grid0.N, isLast (grid0.coords t) → k0_off28 (grid0.coords t) = ![(Ring.sl 3 t.val).val, 0, 0] := by decide +kernel

@[sl_canon] theorem canon23 (t : Fin grid0.N) (h : isLast (grid0.coords t)) :
    (cc0_scratch4.slice (Rect.unit (s := S3) (k0_off23 (grid0.coords t) 0#32) S1.size (k0_off23_inb (grid0.coords t) h 0))).squeeze S_ squeezes_S1_S_ = wcell (Ring.sl 3 (t.val + 2)) :=
  wcell_of (off23_eq t h) _
@[sl_canon] theorem canon24 (t : Fin grid0.N) (h : isLast (grid0.coords t)) :
    (outM.slice (Rect.unit (s := S85x32x1083) (k0_off24 (grid0.coords t) 0#32) S85x1x1083.size (k0_off24_inb (grid0.coords t) h 0)) (fun _ => rfl)).squeeze S85x1083 squeezes_S85x1x1083_S85x1083 = piece (Ring.bk 32 (t.val - 1)) :=
  piece_of (off24_eq t h) _
@[sl_canon] theorem canon25 (t : Fin grid0.N) (h : isLast (grid0.coords t)) :
    (oM.slice (Rect.unit (s := S3x85x1083) (k0_off25 (grid0.coords t) 0#32) S1x85x1083.size (k0_off25_inb (grid0.coords t) h 0)) (fun _ => rfl)).squeeze S85x1083 squeezes_S1x85x1083_S85x1083 = tile (Ring.sl 3 (t.val + 2)) :=
  tile_of (off25_eq t h) _
@[sl_canon] theorem canon23' (t : Fin grid0.N) (h : isLast (grid0.coords t)) :
    (cc0_scratch4.slice (Rect.unit (s := S3) (k0_off23 (grid0.coords t) 1#32) S1.size (k0_off23_inb (grid0.coords t) h 1))).squeeze S_ squeezes_S1_S_ = wcell (Ring.sl 3 (t.val + 1)) :=
  wcell_of (off23'_eq t h) _
@[sl_canon] theorem canon24' (t : Fin grid0.N) (h : isLast (grid0.coords t)) :
    (outM.slice (Rect.unit (s := S85x32x1083) (k0_off24 (grid0.coords t) 1#32) S85x1x1083.size (k0_off24_inb (grid0.coords t) h 1)) (fun _ => rfl)).squeeze S85x1083 squeezes_S85x1x1083_S85x1083 = piece (Ring.bk 32 (t.val - 2)) :=
  piece_of (off24'_eq t h) _
@[sl_canon] theorem canon25' (t : Fin grid0.N) (h : isLast (grid0.coords t)) :
    (oM.slice (Rect.unit (s := S3x85x1083) (k0_off25 (grid0.coords t) 1#32) S1x85x1083.size (k0_off25_inb (grid0.coords t) h 1)) (fun _ => rfl)).squeeze S85x1083 squeezes_S1x85x1083_S85x1083 = tile (Ring.sl 3 (t.val + 1)) :=
  tile_of (off25'_eq t h) _
@[sl_canon] theorem canon26 (t : Fin grid0.N) (h : isLast (grid0.coords t)) :
    (cc0_scratch4.slice (Rect.unit (s := S3) (k0_off26 (grid0.coords t)) S1.size (k0_off26_inb (grid0.coords t) h))).squeeze S_ squeezes_S1_S_ = wcell (Ring.sl 3 t.val) :=
  wcell_of (off26_eq t h) _
@[sl_canon] theorem canon27 (t : Fin grid0.N) (h : isLast (grid0.coords t)) :
    (outM.slice (Rect.unit (s := S85x32x1083) (k0_off27 (grid0.coords t)) S85x1x1083.size (k0_off27_inb (grid0.coords t) h)) (fun _ => rfl)).squeeze S85x1083 squeezes_S85x1x1083_S85x1083 = piece (Ring.bk 32 t.val) :=
  piece_of (off27_eq t h) _
@[sl_canon] theorem canon28 (t : Fin grid0.N) (h : isLast (grid0.coords t)) :
    (oM.slice (Rect.unit (s := S3x85x1083) (k0_off28 (grid0.coords t)) S1x85x1083.size (k0_off28_inb (grid0.coords t) h)) (fun _ => rfl)).squeeze S85x1083 squeezes_S1x85x1083_S85x1083 = tile (Ring.sl 3 t.val) :=
  tile_of (off28_eq t h) _

/-! The same with the sizes written out, as the executor leaves them. -/

@[sl_canon] theorem canonN20 (t : Fin grid0.N) (h : ∀ a, (k0_off20 (grid0.coords t)) a + (![1] : Fin 1 → ℕ) a ≤ S3.size a)
    (hq : (Rect.unit (s := S3) (k0_off20 (grid0.coords t)) ![1] h).shape.Squeezes S_) :
    (cc0_scratch4.slice (Rect.unit (s := S3) (k0_off20 (grid0.coords t)) ![1] h)).squeeze S_ hq = wcell (Ring.sl 3 t.val) :=
  wcell_of (off20_eq t) _
@[sl_canon] theorem canonN21 (t : Fin grid0.N) (h : ∀ a, (k0_off21 (grid0.coords t)) a + (![85, 1, 1083] : Fin 3 → ℕ) a ≤ S85x32x1083.size a)
    (hs : ∀ a, (Rect.unit (s := S85x32x1083) (k0_off21 (grid0.coords t)) ![85, 1, 1083] h).stride a = 1) (hq : (Rect.unit (s := S85x32x1083) (k0_off21 (grid0.coords t)) ![85, 1, 1083] h).shape.Squeezes S85x1083) :
    (outM.slice (Rect.unit (s := S85x32x1083) (k0_off21 (grid0.coords t)) ![85, 1, 1083] h) hs).squeeze S85x1083 hq = piece (Ring.bk 32 t.val) :=
  piece_of (off21_eq t) _
@[sl_canon] theorem canonN22 (t : Fin grid0.N) (h : ∀ a, (k0_off22 (grid0.coords t)) a + (![1, 85, 1083] : Fin 3 → ℕ) a ≤ S3x85x1083.size a)
    (hs : ∀ a, (Rect.unit (s := S3x85x1083) (k0_off22 (grid0.coords t)) ![1, 85, 1083] h).stride a = 1) (hq : (Rect.unit (s := S3x85x1083) (k0_off22 (grid0.coords t)) ![1, 85, 1083] h).shape.Squeezes S85x1083) :
    (oM.slice (Rect.unit (s := S3x85x1083) (k0_off22 (grid0.coords t)) ![1, 85, 1083] h) hs).squeeze S85x1083 hq = tile (Ring.sl 3 t.val) :=
  tile_of (off22_eq t) _
@[sl_canon] theorem canonN23 (t : Fin grid0.N) (hl : isLast (grid0.coords t)) (h : ∀ a, (k0_off23 (grid0.coords t) 0#32) a + (![1] : Fin 1 → ℕ) a ≤ S3.size a)
    (hq : (Rect.unit (s := S3) (k0_off23 (grid0.coords t) 0#32) ![1] h).shape.Squeezes S_) :
    (cc0_scratch4.slice (Rect.unit (s := S3) (k0_off23 (grid0.coords t) 0#32) ![1] h)).squeeze S_ hq = wcell (Ring.sl 3 (t.val + 2)) :=
  wcell_of (off23_eq t hl) _
@[sl_canon] theorem canonN24 (t : Fin grid0.N) (hl : isLast (grid0.coords t)) (h : ∀ a, (k0_off24 (grid0.coords t) 0#32) a + (![85, 1, 1083] : Fin 3 → ℕ) a ≤ S85x32x1083.size a)
    (hs : ∀ a, (Rect.unit (s := S85x32x1083) (k0_off24 (grid0.coords t) 0#32) ![85, 1, 1083] h).stride a = 1) (hq : (Rect.unit (s := S85x32x1083) (k0_off24 (grid0.coords t) 0#32) ![85, 1, 1083] h).shape.Squeezes S85x1083) :
    (outM.slice (Rect.unit (s := S85x32x1083) (k0_off24 (grid0.coords t) 0#32) ![85, 1, 1083] h) hs).squeeze S85x1083 hq = piece (Ring.bk 32 (t.val - 1)) :=
  piece_of (off24_eq t hl) _
@[sl_canon] theorem canonN25 (t : Fin grid0.N) (hl : isLast (grid0.coords t)) (h : ∀ a, (k0_off25 (grid0.coords t) 0#32) a + (![1, 85, 1083] : Fin 3 → ℕ) a ≤ S3x85x1083.size a)
    (hs : ∀ a, (Rect.unit (s := S3x85x1083) (k0_off25 (grid0.coords t) 0#32) ![1, 85, 1083] h).stride a = 1) (hq : (Rect.unit (s := S3x85x1083) (k0_off25 (grid0.coords t) 0#32) ![1, 85, 1083] h).shape.Squeezes S85x1083) :
    (oM.slice (Rect.unit (s := S3x85x1083) (k0_off25 (grid0.coords t) 0#32) ![1, 85, 1083] h) hs).squeeze S85x1083 hq = tile (Ring.sl 3 (t.val + 2)) :=
  tile_of (off25_eq t hl) _
@[sl_canon] theorem canonN23' (t : Fin grid0.N) (hl : isLast (grid0.coords t)) (h : ∀ a, (k0_off23 (grid0.coords t) 1#32) a + (![1] : Fin 1 → ℕ) a ≤ S3.size a)
    (hq : (Rect.unit (s := S3) (k0_off23 (grid0.coords t) 1#32) ![1] h).shape.Squeezes S_) :
    (cc0_scratch4.slice (Rect.unit (s := S3) (k0_off23 (grid0.coords t) 1#32) ![1] h)).squeeze S_ hq = wcell (Ring.sl 3 (t.val + 1)) :=
  wcell_of (off23'_eq t hl) _
@[sl_canon] theorem canonN24' (t : Fin grid0.N) (hl : isLast (grid0.coords t)) (h : ∀ a, (k0_off24 (grid0.coords t) 1#32) a + (![85, 1, 1083] : Fin 3 → ℕ) a ≤ S85x32x1083.size a)
    (hs : ∀ a, (Rect.unit (s := S85x32x1083) (k0_off24 (grid0.coords t) 1#32) ![85, 1, 1083] h).stride a = 1) (hq : (Rect.unit (s := S85x32x1083) (k0_off24 (grid0.coords t) 1#32) ![85, 1, 1083] h).shape.Squeezes S85x1083) :
    (outM.slice (Rect.unit (s := S85x32x1083) (k0_off24 (grid0.coords t) 1#32) ![85, 1, 1083] h) hs).squeeze S85x1083 hq = piece (Ring.bk 32 (t.val - 2)) :=
  piece_of (off24'_eq t hl) _
@[sl_canon] theorem canonN25' (t : Fin grid0.N) (hl : isLast (grid0.coords t)) (h : ∀ a, (k0_off25 (grid0.coords t) 1#32) a + (![1, 85, 1083] : Fin 3 → ℕ) a ≤ S3x85x1083.size a)
    (hs : ∀ a, (Rect.unit (s := S3x85x1083) (k0_off25 (grid0.coords t) 1#32) ![1, 85, 1083] h).stride a = 1) (hq : (Rect.unit (s := S3x85x1083) (k0_off25 (grid0.coords t) 1#32) ![1, 85, 1083] h).shape.Squeezes S85x1083) :
    (oM.slice (Rect.unit (s := S3x85x1083) (k0_off25 (grid0.coords t) 1#32) ![1, 85, 1083] h) hs).squeeze S85x1083 hq = tile (Ring.sl 3 (t.val + 1)) :=
  tile_of (off25'_eq t hl) _
@[sl_canon] theorem canonN26 (t : Fin grid0.N) (hl : isLast (grid0.coords t)) (h : ∀ a, (k0_off26 (grid0.coords t)) a + (![1] : Fin 1 → ℕ) a ≤ S3.size a)
    (hq : (Rect.unit (s := S3) (k0_off26 (grid0.coords t)) ![1] h).shape.Squeezes S_) :
    (cc0_scratch4.slice (Rect.unit (s := S3) (k0_off26 (grid0.coords t)) ![1] h)).squeeze S_ hq = wcell (Ring.sl 3 t.val) :=
  wcell_of (off26_eq t hl) _
@[sl_canon] theorem canonN27 (t : Fin grid0.N) (hl : isLast (grid0.coords t)) (h : ∀ a, (k0_off27 (grid0.coords t)) a + (![85, 1, 1083] : Fin 3 → ℕ) a ≤ S85x32x1083.size a)
    (hs : ∀ a, (Rect.unit (s := S85x32x1083) (k0_off27 (grid0.coords t)) ![85, 1, 1083] h).stride a = 1) (hq : (Rect.unit (s := S85x32x1083) (k0_off27 (grid0.coords t)) ![85, 1, 1083] h).shape.Squeezes S85x1083) :
    (outM.slice (Rect.unit (s := S85x32x1083) (k0_off27 (grid0.coords t)) ![85, 1, 1083] h) hs).squeeze S85x1083 hq = piece (Ring.bk 32 t.val) :=
  piece_of (off27_eq t hl) _
@[sl_canon] theorem canonN28 (t : Fin grid0.N) (hl : isLast (grid0.coords t)) (h : ∀ a, (k0_off28 (grid0.coords t)) a + (![1, 85, 1083] : Fin 3 → ℕ) a ≤ S3x85x1083.size a)
    (hs : ∀ a, (Rect.unit (s := S3x85x1083) (k0_off28 (grid0.coords t)) ![1, 85, 1083] h).stride a = 1) (hq : (Rect.unit (s := S3x85x1083) (k0_off28 (grid0.coords t)) ![1, 85, 1083] h).shape.Squeezes S85x1083) :
    (oM.slice (Rect.unit (s := S3x85x1083) (k0_off28 (grid0.coords t)) ![1, 85, 1083] h) hs).squeeze S85x1083 hq = tile (Ring.sl 3 t.val) :=
  tile_of (off28_eq t hl) _

end Canon

/-! ## What is held of them -/

section Held
variable (c : Dev nD) (W : BufOf (F := F) c inM)

/-- Half `h` of slot `s` held at `f`; its semaphore at zero; half `h` of block `b` of the input held at the input's contents `W`. -/
abbrev halfP (s : Fin 3) (h : Fin 2) (f : BufOf (F := F) c (half s h)) : sProp 𝕄 := (half s h).view.loc (c : Thread nD τ) ↦[(half s h).view.set]{fullShare} f
abbrev slotP (s : Fin 3) (f : BufOf (F := F) c (slot s)) : sProp 𝕄 := (slot s).view.loc (c : Thread nD τ) ↦[(slot s).view.set]{fullShare} f
abbrev cellP (s : Fin 3) (h : Fin 2) : sProp 𝕄 := semVal ((c : Thread nD τ), cellL s h) 0
abbrev srcP (b : Fin 32) (h : Fin 2) : sProp 𝕄 := (src b h).view.loc (c : Thread nD τ) ↦[(src b h).view.set]{fullShare} W
/-- What half `h` of slot `s`, holding `f` before, holds once half `h` of block `b` has landed in it. -/
abbrev landed (s : Fin 3) (h : Fin 2) (b : Fin 32) (f : BufOf (F := F) c (half s h)) : BufOf (F := F) c (half s h) :=
  (half s h).view.writes (Elt F) f [⟨Rect.whole S361x512, ReadAs.same.apply ((src b h).view.read (Elt F) W)⟩]
/-- The copy of half `h` of block `b` into half `h` of slot `s`, under way: it will give back both. -/
abbrev flightH (s : Fin 3) (h : Fin 2) (b : Fin 32) (f : BufOf (F := F) c (half s h)) : sProp 𝕄 :=
  Transfers.Flight countersEmb (c : Thread nD τ) (cellL s h) default ((half s h).view.amount (cellL s h))
    iprop(halfP c s h (landed c W s h b f) ∗ srcP c W b h)
/-- The same for both halves: the families of the input ring. -/
abbrev cells (s : Fin 3) : sProp 𝕄 := iprop(cellP c s 0 ∗ cellP c s 1)
abbrev slots (s : Fin 3) (f : BufOf (F := F) c (half s 0) × BufOf (F := F) c (half s 1)) : sProp 𝕄 := iprop(halfP c s 0 f.1 ∗ halfP c s 1 f.2)
abbrev srcs (b : Fin 32) : sProp 𝕄 := iprop(srcP c W b 0 ∗ srcP c W b 1)
abbrev flights (s : Fin 3) (b : Fin 32) (f : BufOf (F := F) c (half s 0) × BufOf (F := F) c (half s 1)) : sProp 𝕄 :=
  iprop(flightH c W s 0 b f.1 ∗ flightH c W s 1 b f.2)
/-- A tile held at `e`, its semaphore at zero, a piece of the output held at `f`. -/
abbrev tileP (s : Fin 3) (e : BufOf (F := F) c (tile s)) : sProp 𝕄 := (tile s).view.loc (c : Thread nD τ) ↦[(tile s).view.set]{fullShare} e
abbrev wcellP (s : Fin 3) : sProp 𝕄 := semVal ((c : Thread nD τ), wcellL s) 0
abbrev pieceP (u : Fin 32) (f : BufOf (F := F) c (piece u)) : sProp 𝕄 := (piece u).view.loc (c : Thread nD τ) ↦[(piece u).view.set]{fullShare} f

end Held

end Cert.KernelIdeal.Gen

end
-- ==== Proof.Slots.lean ====
/- What an input slot holds once both halves of a block have landed in it: the block, element by element; and the two halves
   of a slot are the slot. -/
module

public import proofs.«01_k».proof.Proof.Names
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
open Idealize.ShloMosaic.ValueIdx

/-- The contents of the input scratch that hold block `b` of the input `W` in every slot. -/
def fill (c : Dev nD) (W : BufOf (F := F) c inM) (b : Fin 32) : BufOf (F := F) c xM :=
  fun i : S3x361x1024.Idx => (W : S361x32x1024.Idx → Elt F .f32) (ix3 (i 1) b (i 2))

/-- Where half `h` of slot `s` keeps its element `x`, -/
theorem half_emb (s : Fin 3) (h : Fin 2) (x : S361x512.Idx) :
    (half s h).view.emb x = (ix3 s (x 0) ⟨512 * h.val + (x 1).val, by have := h.isLt; have := (x 1).isLt; change (x 1).val < 512 at this; omega⟩ : S3x361x1024.Idx) := by
  have e : Shape.reshapeEquiv (s := S1x361x512) (s' := S361x512) squeezes_S1x361x512_S361x512.numel_eq x = (ix3 (0 : Fin 1) (x 0) (x 1) : S1x361x512.Idx) :=
    Shape.reshapeEquiv_eq_of_rowMajor _ (by
      rw [Shape.rowMajor_val_three, Shape.rowMajor_val_two]
      show ((0 : ℕ) * 361 + (x 0).val) * 512 + (x 1).val = (x 0).val * 512 + (x 1).val
      omega)
  show (Rect.unit (s := S3x361x1024) ![s.val, 0, 512 * h.val] S1x361x512.size (inb_half s h)).emb (Shape.reshapeEquiv _ x) = _
  rw [e]
  funext a
  apply Fin.ext
  fin_cases a
  · show s.val + 1 * 0 = s.val; omega
  · show 0 + 1 * (x 0).val = (x 0).val; omega
  · show 512 * h.val + 1 * (x 1).val = 512 * h.val + (x 1).val; omega
/-- and where the input keeps the element that lands there. -/
theorem src_emb (b : Fin 32) (h : Fin 2) (x : S361x512.Idx) :
    (src b h).view.emb x = (ix3 (x 0) b ⟨512 * h.val + (x 1).val, by have := h.isLt; have := (x 1).isLt; change (x 1).val < 512 at this; omega⟩ : S361x32x1024.Idx) := by
  have e : Shape.reshapeEquiv (s := S361x1x512) (s' := S361x512) squeezes_S361x1x512_S361x512.numel_eq x = (ix3 (x 0) (0 : Fin 1) (x 1) : S361x1x512.Idx) :=
    Shape.reshapeEquiv_eq_of_rowMajor _ (by
      rw [Shape.rowMajor_val_three, Shape.rowMajor_val_two]
      show ((x 0).val * 1 + 0) * 512 + (x 1).val = (x 0).val * 512 + (x 1).val
      omega)
  show (Rect.unit (s := S361x32x1024) ![0, b.val, 512 * h.val] S361x1x512.size (inb_src b h)).emb (Shape.reshapeEquiv _ x) = _
  rw [e]
  funext a
  apply Fin.ext
  fin_cases a
  · show 0 + 1 * (x 0).val = (x 0).val; omega
  · show b.val + 1 * 0 = b.val; omega
  · show 512 * h.val + 1 * (x 1).val = 512 * h.val + (x 1).val; omega

/-- What a copy leaves under an element of its destination: the source's element there. -/
theorem copied_emb {sp sp' : Space} {S : Shape} {e : EltTy} (v : View sig .tc sp S e) (v' : View sig .tc sp' S e) (f : v.ty.Contents (Elt F))
    (g : v'.ty.Contents (Elt F)) (x : S.Idx) :
    v.writes (Elt F) f [⟨Rect.whole S, ReadAs.same.apply (v'.read (Elt F) g)⟩] (v.emb x) = _root_.cast (congrArg (Elt F) (v'.elt_eq.trans v.elt_eq.symm)) (g (v'.emb x)) := by
  have h := congrFun (View.read_writes_whole v f (ReadAs.same.apply (v'.read (Elt F) g))) x
  rw [View.read_apply] at h
  have h2 : ReadAs.same.apply (v'.read (Elt F) g) x = _root_.cast (congrArg (Elt F) v'.elt_eq) (g (v'.emb x)) := rfl
  rw [h2] at h
  have h3 := congrArg (_root_.cast (congrArg (Elt F) v.elt_eq.symm)) h
  rwa [_root_.cast_cast, _root_.cast_cast, _root_.cast_eq] at h3

/-- A half that a block's half has landed in holds the block. -/
theorem landed_eq (c : Dev nD) (W : BufOf (F := F) c inM) (s : Fin 3) (h : Fin 2) (b : Fin 32) (f : BufOf (F := F) c (half s h)) :
    halfP c s h (landed c W s h b f) = (halfP c s h (fill c W b) : sProp 𝕄) := by
  refine pointsTo_congr fun i hi => ?_
  obtain ⟨x, -, rfl⟩ := Finset.mem_map.mp hi
  refine (copied_emb (half s h).view (src b h).view f W x).trans ((cast_eq _ _).trans ?_)
  rw [src_emb, half_emb]
  rfl

theorem half_set (s : Fin 3) (h : Fin 2) : (half s h).view.set = (Rect.unit (s := S3x361x1024) ![s.val, 0, 512 * h.val] S1x361x512.size (inb_half s h)).set := by
  simp only [half, Memref.view_squeeze, View.set_reshape]; exact View.set_slice_whole _ _
theorem slot_set (s : Fin 3) : (slot s).view.set = (Rect.unit (s := S3x361x1024) ![s.val, 0, 0] S1x361x1024.size (inb_slot s)).set := by
  simp only [slot]; exact View.set_slice_whole _ _

/-- The elements of a half, by their coordinates, -/
theorem mem_half (s : Fin 3) (h : Fin 2) (i : S3x361x1024.Idx) : i ∈ (half s h).view.set ↔
    (s.val ≤ (i 0).val ∧ (i 0).val < s.val + 1) ∧ (0 ≤ (i 1).val ∧ (i 1).val < 0 + 361) ∧ (512 * h.val ≤ (i 2).val ∧ (i 2).val < 512 * h.val + 512) := by
  rw [half_set]
  refine Rect.mem_set_unit.trans ?_
  simp only [Fin.forall_fin_succ, IsEmpty.forall_iff, and_true]
  exact Iff.rfl
/-- and of a slot. -/
theorem mem_slot (s : Fin 3) (i : S3x361x1024.Idx) : i ∈ (slot s).view.set ↔
    (s.val ≤ (i 0).val ∧ (i 0).val < s.val + 1) ∧ (0 ≤ (i 1).val ∧ (i 1).val < 0 + 361) ∧ (0 ≤ (i 2).val ∧ (i 2).val < 0 + 1024) := by
  rw [slot_set]
  refine Rect.mem_set_unit.trans ?_
  simp only [Fin.forall_fin_succ, IsEmpty.forall_iff, and_true]
  exact Iff.rfl

/-- The two halves of a slot do not meet, -/
theorem halves_disjoint (s : Fin 3) : Disjoint (half s 0).view.set (half s 1).view.set := by
  refine Finset.disjoint_left.2 fun i h0 h1 => ?_
  have a := ((mem_half s 0 i).1 h0).2.2.2
  have b := ((mem_half s 1 i).1 h1).2.2.1
  exact absurd (Nat.lt_of_le_of_lt b a) (by decide)
/-- and make it up. -/
theorem halves_union (s : Fin 3) : (half s 0).view.set ∪ (half s 1).view.set = (slot s).view.set := by
  refine Finset.ext fun i => Finset.mem_union.trans ?_
  refine Iff.trans (or_congr (mem_half s 0 i) (mem_half s 1 i)) (Iff.trans ?_ (mem_slot s i).symm)
  have e0 : ((0 : Fin 2).val) = 0 := rfl
  have e1 : ((1 : Fin 2).val) = 1 := rfl
  rw [e0, e1]
  omega

/-- A slot is its two halves. -/
theorem slot_halves (c : Dev nD) (s : Fin 3) (f : BufOf (F := F) c xM) :
    (slotP c s f : sProp 𝕄) ⊣⊢ iprop(halfP c s 0 f ∗ halfP c s 1 f) := by
  show ((slot s).view.loc (c : Thread nD τ) ↦[(slot s).view.set]{fullShare} f : sProp 𝕄) ⊣⊢ _
  rw [← halves_union s]
  exact pointsTo_union (halves_disjoint s)

/-- Both halves landed, the slot holds the block; -/
theorem join_landed (c : Dev nD) (W : BufOf (F := F) c inM) (s : Fin 3) (b : Fin 32) (f : BufOf (F := F) c (half s 0)) (g : BufOf (F := F) c (half s 1)) :
    (iprop(halfP c s 0 (landed c W s 0 b f) ∗ halfP c s 1 (landed c W s 1 b g)) : sProp 𝕄) ⊢ slotP c s (fill c W b) := by
  rw [landed_eq, landed_eq]; exact (slot_halves c s _).2
/-- and it is given back in halves. -/
theorem split_slot (c : Dev nD) (W : BufOf (F := F) c inM) (s : Fin 3) (b : Fin 32) :
    (slotP c s (fill c W b) : sProp 𝕄) ⊢ iprop(halfP c s 0 (fill c W b) ∗ halfP c s 1 (fill c W b)) := (slot_halves c s _).1

end Cert.KernelIdeal.Gen

end
-- ==== Proof.Tile.lean ====
/- What the body puts into a tile of the output scratch: the three anchors' results side by side, a function of the block, the
   weight scratch and the bias; and the copy of that tile to the output. -/
module

public import proofs.«01_k».proof.Proof.Slots
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
open Idealize.ShloMosaic.ValueIdx

/-! ## The three results of a point, from the product `y` -/

abbrev rowsOf : IVec S85x361 32 := iota .tc S85x361 32 [0] iota_S85x361_d0_w32
/-- The first anchor's result, -/
def res0 (y : FVec F S384x361 .f32) : FVec F S1x85x361 .f32 := k0_pay10 y rowsOf k0_pay7 k0_pay8
/-- the second's -/
def res1 (y : FVec F S384x361 .f32) : FVec F S1x85x361 .f32 :=
  k0_pay15 rowsOf k0_pay7 (k0_pay9 k0_pay8) (k0_pay12 y) (k0_pay13 y) (k0_pay14 y) (Scalar.ofBits .f32 0x43460000#32)
/-- and the third's. -/
def res2 (y : FVec F S384x361 .f32) : FVec F S1x85x361 .f32 :=
  k0_pay1 rowsOf k0_pay7 (k0_pay17 y) (k0_pay18 y) (k0_pay19 y) (k0_pay20 rowsOf) (k0_pay21 y (k0_pay9 k0_pay8)) k0_pay22

/-- The three side by side. -/
def tileVal (y : FVec F S384x361 .f32) : Vec F S85x1083 .f32 := fun j =>
  if h0 : (j 1).val < 361 then res0 y (ix3 (0 : Fin 1) (j 0) ⟨(j 1).val, h0⟩)
  else if h1 : (j 1).val < 722 then res1 y (ix3 (0 : Fin 1) (j 0) ⟨(j 1).val - 361, by omega⟩)
  else res2 y (ix3 (0 : Fin 1) (j 0) ⟨(j 1).val - 722, by have := (j 1).isLt; change (j 1).val < 1083 at this; omega⟩)

/-- Block `b` of the input as a value. -/
def xblk (c : Dev nD) (V : BufOf (F := F) c inM) (b : Fin 32) : Vec F S1x361x1024 .f32 := fun i => (V : S361x32x1024.Idx → Elt F .f32) (ix3 (i 1) b (i 2))
/-- The product of block `b` and the weights `wb`, with the bias. -/
def prod (c : Dev nD) (V : BufOf (F := F) c inM) (b : Fin 32) (wb : BufOf (F := F) c wM) (x1 : Vec F S384x1 .f32) : FVec F S384x361 .f32 :=
  k0_pay6 (xblk c V b) (wb : S384x1024.Idx → Elt F .bf16) x1

/-! ## The loads -/

/-- The load of a slot that holds block `b` reads the block. -/
theorem load_slot (c : Dev nD) (V : BufOf (F := F) c inM) (b : Fin 32) {o : Fin 3 → ℕ} {s : Fin 3} (e : o = ![s.val, 0, 0])
    (inb : ∀ a, o a + S1x361x1024.size a ≤ S3x361x1024.size a) :
    View.readAt (Elt F) xM.view (Rect.unit (s := S3x361x1024) o S1x361x1024.size inb).toLoadRect (fill c V b) = xblk c V b := by
  subst e
  funext i
  show (V : S361x32x1024.Idx → Elt F .f32) (ix3 ⟨0 + 1 * (i 1).val, _⟩ b ⟨0 + 1 * (i 2).val, _⟩) = V (ix3 (i 1) b (i 2))
  congr 1
  funext a; apply Fin.ext; fin_cases a
  · show 0 + 1 * (i 1).val = (i 1).val; omega
  · rfl
  · show 0 + 1 * (i 2).val = (i 2).val; omega
/-- The load of the whole weight scratch reads it, -/
theorem load_w (c : Dev nD) (wb : BufOf (F := F) c wM) (inb : ∀ a, (![0, 0] : Fin 2 → ℕ) a + S384x1024.size a ≤ S384x1024.size a) :
    View.readAt (Elt F) wM.view (Rect.unit (s := S384x1024) ![0, 0] S384x1024.size inb).toLoadRect wb = (wb : S384x1024.Idx → Elt F .bf16) := by
  funext i
  show (wb : S384x1024.Idx → Elt F .bf16) _ = wb i
  congr 1
  funext a; apply Fin.ext; fin_cases a
  · show 0 + 1 * (i 0).val = (i 0).val; omega
  · show 0 + 1 * (i 1).val = (i 1).val; omega
/-- and so does the bias's. -/
theorem load_bias {m : Memref sig .tc .vmem S384x1 .f32} (h : m.IsWhole) (x1 : Vec F S384x1 .f32) (inb : ∀ a, (![0, 0] : Fin 2 → ℕ) a + S384x1.size a ≤ S384x1.size a) :
    View.readAt (Elt F) m.view (Rect.unit (s := S384x1) ![0, 0] S384x1.size inb).toLoadRect (h.unread x1) = x1 := by
  funext i
  rw [h.readAt_unread]
  congr 1
  funext a; apply Fin.ext; fin_cases a
  · show 0 + 1 * (i 0).val = (i 0).val; omega
  · show 0 + 1 * (i 1).val = (i 1).val; omega

/-! ## The tile -/

/-- Where tile `s` keeps its element `x`, -/
theorem tile_emb (s : Fin 3) (x : S85x1083.Idx) : (tile s).view.emb x = (ix3 s (x 0) (x 1) : S3x85x1083.Idx) := by
  have e : Shape.reshapeEquiv (s := S1x85x1083) (s' := S85x1083) squeezes_S1x85x1083_S85x1083.numel_eq x = (ix3 (0 : Fin 1) (x 0) (x 1) : S1x85x1083.Idx) :=
    Shape.reshapeEquiv_eq_of_rowMajor _ (by
      rw [Shape.rowMajor_val_three, Shape.rowMajor_val_two]
      show ((0 : ℕ) * 85 + (x 0).val) * 1083 + (x 1).val = (x 0).val * 1083 + (x 1).val
      omega)
  show (Rect.unit (s := S3x85x1083) ![s.val, 0, 0] S1x85x1083.size (inb_tile s)).emb (Shape.reshapeEquiv _ x) = _
  rw [e]
  funext a
  apply Fin.ext
  fin_cases a
  · show s.val + 1 * 0 = s.val; omega
  · show 0 + 1 * (x 0).val = (x 0).val; omega
  · show 0 + 1 * (x 1).val = (x 1).val; omega
/-- and where the output keeps element `x` of piece `u`. -/
theorem piece_emb (u : Fin 32) (x : S85x1083.Idx) : (piece u).view.emb x = (ix3 (x 0) u (x 1) : S85x32x1083.Idx) := by
  have e : Shape.reshapeEquiv (s := S85x1x1083) (s' := S85x1083) squeezes_S85x1x1083_S85x1083.numel_eq x = (ix3 (x 0) (0 : Fin 1) (x 1) : S85x1x1083.Idx) :=
    Shape.reshapeEquiv_eq_of_rowMajor _ (by
      rw [Shape.rowMajor_val_three, Shape.rowMajor_val_two]
      show ((x 0).val * 1 + 0) * 1083 + (x 1).val = (x 0).val * 1083 + (x 1).val
      omega)
  show (Rect.unit (s := S85x32x1083) ![0, u.val, 0] S85x1x1083.size (inb_piece u)).emb (Shape.reshapeEquiv _ x) = _
  rw [e]
  funext a
  apply Fin.ext
  fin_cases a
  · show 0 + 1 * (x 0).val = (x 0).val; omega
  · show u.val + 1 * 0 = u.val; omega
  · show 0 + 1 * (x 1).val = (x 1).val; omega

/-- A store through a view, read back under an element of the view, -/
theorem write_here {sp : Space} {S : Shape} {e : EltTy} (v : View sig .tc sp S e) (f : v.ty.Contents (Elt F)) (w : S.Idx → Elt F e) (i : v.ty.Idx) (x : S.Idx)
    (h : i = v.emb x) : v.write (Elt F) f w Finset.univ i = _root_.cast (congrArg (Elt F) v.elt_eq.symm) (w x) := by
  subst h; exact View.write_emb_of_mem f w (Finset.mem_univ x)
/-- and elsewhere. -/
theorem write_there {sp : Space} {S : Shape} {e : EltTy} (v : View sig .tc sp S e) (f : v.ty.Contents (Elt F)) (w : S.Idx → Elt F e) (i : v.ty.Idx)
    (h : ∀ x, v.emb x ≠ i) : v.write (Elt F) f w Finset.univ i = f i := by
  refine View.write_of_not_mem f w Finset.univ fun hj => ?_
  obtain ⟨x, -, hx⟩ := Finset.mem_map.mp hj
  exact h x hx

/-- A store of 361 lanes from lane `q` into a tile of slot `s`, read back at a lane: the stored value at its own lanes, -/
theorem store_in {o : Fin 3 → ℕ} {s : Fin 3} {q : ℕ} (e : o = ![s.val, 0, q]) (inb : ∀ a, o a + S1x85x361.size a ≤ S3x85x1083.size a)
    (f : S3x85x1083.Idx → Elt F .f32) (w : Vec F S1x85x361 .f32) (j : S3x85x1083.Idx) (x : S1x85x361.Idx)
    (h0 : (j 0).val = s.val) (h1 : (j 1).val = (x 1).val) (h2 : (j 2).val = q + (x 2).val) :
    (View.write (Elt F) (oM.access (Rect.unit (s := S3x85x1083) o S1x85x361.size inb)) f w Finset.univ : S3x85x1083.Idx → Elt F .f32) j = w x := by
  subst e
  have hj : j = (oM.access (Rect.unit (s := S3x85x1083) ![s.val, 0, q] S1x85x361.size inb)).emb x := by
    funext a; apply Fin.ext; fin_cases a
    · have := (x 0).isLt; change (x 0).val < 1 at this; show (j 0).val = s.val + 1 * (x 0).val; omega
    · show (j 1).val = 0 + 1 * (x 1).val; omega
    · show (j 2).val = q + 1 * (x 2).val; omega
  exact (write_here (oM.access (Rect.unit (s := S3x85x1083) ![s.val, 0, q] S1x85x361.size inb)) f w j x hj).trans (cast_eq _ _)
/-- and what was there before at the others. -/
theorem store_out {o : Fin 3 → ℕ} {s : Fin 3} {q : ℕ} (e : o = ![s.val, 0, q]) (inb : ∀ a, o a + S1x85x361.size a ≤ S3x85x1083.size a)
    (f : S3x85x1083.Idx → Elt F .f32) (w : Vec F S1x85x361 .f32) (j : S3x85x1083.Idx) (h2 : (j 2).val < q ∨ q + 361 ≤ (j 2).val) :
    (View.write (Elt F) (oM.access (Rect.unit (s := S3x85x1083) o S1x85x361.size inb)) f w Finset.univ : S3x85x1083.Idx → Elt F .f32) j = f j := by
  subst e
  refine write_there (oM.access (Rect.unit (s := S3x85x1083) ![s.val, 0, q] S1x85x361.size inb)) f w j fun x hx => ?_
  have hx2 : (j 2).val = q + 1 * (x 2).val := by rw [← hx]; rfl
  have := (x 2).isLt; change (x 2).val < 361 at this
  omega

/-- The output scratch after the three stores of point `t`, over what it held before. -/
def stored (c : Dev nD) (t : Fin grid0.N) (y : FVec F S384x361 .f32) (e : BufOf (F := F) c (tile (Ring.sl 3 t.val))) : BufOf (F := F) c (tile (Ring.sl 3 t.val)) :=
  View.write (Elt F) (oM.access (Rect.unit (s := S3x85x1083) (k0_off19 (grid0.coords t)) S1x85x361.size (k0_off19_inb (grid0.coords t))))
    (View.write (Elt F) (oM.access (Rect.unit (s := S3x85x1083) (k0_off18 (grid0.coords t)) S1x85x361.size (k0_off18_inb (grid0.coords t))))
      (View.write (Elt F) (oM.access (Rect.unit (s := S3x85x1083) (k0_off17 (grid0.coords t)) S1x85x361.size (k0_off17_inb (grid0.coords t)))) e (res0 y) Finset.univ)
      (res1 y) Finset.univ) (res2 y) Finset.univ

/-- The tile then reads the three results side by side. -/
theorem read_stored (c : Dev nD) (t : Fin grid0.N) (y : FVec F S384x361 .f32) (e : BufOf (F := F) c (tile (Ring.sl 3 t.val))) :
    (tile (Ring.sl 3 t.val)).view.read (Elt F) (stored c t y e) = tileVal y := by
  funext x
  refine (View.read_apply _ _).trans ((cast_eq _ _).trans ?_)
  rw [tile_emb]
  unfold stored tileVal
  have hx1 := (x 1).isLt; change (x 1).val < 1083 at hx1
  split
  · rename_i h
    refine (store_out (off19_eq t) _ _ _ _ (Or.inl (by show (x 1).val < 722; omega))).trans ?_
    refine (store_out (off18_eq t) _ _ _ _ (Or.inl (by show (x 1).val < 361; omega))).trans ?_
    exact store_in (off17_eq t) _ _ _ _ _ rfl rfl (by show (x 1).val = 0 + (x 1).val; omega)
  · split
    · refine (store_out (off19_eq t) _ _ _ _ (Or.inl (by show (x 1).val < 722; omega))).trans ?_
      exact store_in (off18_eq t) _ _ _ _ _ rfl rfl (by show (x 1).val = 361 + ((x 1).val - 361); omega)
    · exact store_in (off19_eq t) _ _ _ _ _ rfl rfl (by show (x 1).val = 722 + ((x 1).val - 722); omega)

/-! ## The copy out -/

/-- The copy of tile `s` to piece `u`, under way: it will give back the piece at `f` and the tile. -/
abbrev flightW (c : Dev nD) (s : Fin 3) (u : Fin 32) (f : BufOf (F := F) c (piece u)) (e : BufOf (F := F) c (tile s)) : sProp 𝕄 :=
  Transfers.Flight countersEmb (c : Thread nD τ) (wcellL s) default ((piece u).view.amount (wcellL s)) iprop(pieceP c u f ∗ tileP c s e)
/-- The same, the piece's contents to be the results from `y`. -/
def outgoing (c : Dev nD) (s : Fin 3) (u : Fin 32) (y : FVec F S384x361 .f32) : sProp 𝕄 :=
  iprop(∃ f e, ⌜(piece u).view.read (Elt F) f = tileVal y⌝ ∗ flightW c s u f e)

/-- The copy the body starts is that. -/
theorem outgoing_of (c : Dev nD) (t : Fin grid0.N) (u : Fin 32) (y y' : FVec F S384x361 .f32) (hy : y = y') (e : BufOf (F := F) c (tile (Ring.sl 3 t.val))) (f : BufOf (F := F) c (piece u)) :
    (flightW c (Ring.sl 3 t.val) u ((piece u).view.writes (Elt F) f [⟨Rect.whole S85x1083, ReadAs.same.apply ((tile (Ring.sl 3 t.val)).view.read (Elt F) (stored c t y e))⟩]) (stored c t y e) : sProp 𝕄)
      ⊢ outgoing c (Ring.sl 3 t.val) u y' := by
  subst hy
  unfold outgoing
  iintro H
  iexists _; iexists _
  isplitr
  · ipureintro
    exact (View.read_writes_whole _ f _).trans (read_stored c t y e)
  · iexact H

end Cert.KernelIdeal.Gen

end
-- ==== Proof.Weights.lean ====
/- The weight scratch after the first point has filled it: the rows of each anchor's weights, at that anchor's rows. -/
module

public import proofs.«01_k».proof.Proof.Tile
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
open Idealize.ShloMosaic.ValueIdx

/-- The weight scratch after the first point's three stores, over what it held before. -/
def filled (c : Dev nD) (x0 : Vec F S2040x128 .f32) (wb : BufOf (F := F) c wM) : BufOf (F := F) c wM :=
  wM.view.writes (Elt F) wb
    [⟨Rect.unit (s := S384x1024) ![256, 0] S86x1024.size inb_S384x1024_S86x1024_256_0,
        updateSlice (View.readAt (Elt F) wM.view (Rect.unit (s := S384x1024) ![256, 0] S86x1024.size inb_S384x1024_S86x1024_256_0).toLoadRect wb) (k0_pay5 x0) ![0, 0] slices_S86x1024_S85x1024_0_0⟩,
      ⟨Rect.unit (s := S384x1024) ![128, 0] S86x1024.size inb_S384x1024_S86x1024_128_0,
        updateSlice (View.readAt (Elt F) wM.view (Rect.unit (s := S384x1024) ![128, 0] S86x1024.size inb_S384x1024_S86x1024_128_0).toLoadRect wb) (k0_pay4 x0) ![0, 0] slices_S86x1024_S85x1024_0_0⟩,
      ⟨Rect.unit (s := S384x1024) ![0, 0] S86x1024.size inb_S384x1024_S86x1024_0_0,
        updateSlice (View.readAt (Elt F) wM.view (Rect.unit (s := S384x1024) ![0, 0] S86x1024.size inb_S384x1024_S86x1024_0_0).toLoadRect wb) (k0_pay3 x0) ![0, 0] slices_S86x1024_S85x1024_0_0⟩]

/-- The weight scratch holds the weights `x0`: 85 rows to each of the three anchors, from rows 0, 128 and 256. -/
def Holds (c : Dev nD) (x0 : Vec F S2040x128 .f32) (wb : BufOf (F := F) c wM) : Prop :=
  ∀ (r : Fin 85) (ch : Fin 1024),
    (wb : S384x1024.Idx → Elt F .bf16) (ix2 ⟨r.val, by omega⟩ ch) = k0_pay3 x0 (ix2 r ch)
    ∧ (wb : S384x1024.Idx → Elt F .bf16) (ix2 ⟨128 + r.val, by omega⟩ ch) = k0_pay4 x0 (ix2 r ch)
    ∧ (wb : S384x1024.Idx → Elt F .bf16) (ix2 ⟨256 + r.val, by omega⟩ ch) = k0_pay5 x0 (ix2 r ch)

/-- The rows a store replaces of the block it read. -/
theorem update_row {α : Type} (old : S86x1024.Idx → α) (w : S85x1024.Idx → α) (r : Fin 85) (ch : Fin 1024) :
    updateSlice old w ![0, 0] slices_S86x1024_S85x1024_0_0 (ix2 ⟨r.val, by omega⟩ ch : S86x1024.Idx) = w (ix2 r ch) := by
  unfold updateSlice
  have hr := r.isLt
  have hc := ch.isLt
  rw [dif_pos (by
    intro a; fin_cases a
    · exact ⟨Nat.zero_le _, by show r.val < 0 + 85; omega⟩
    · exact ⟨Nat.zero_le _, by show ch.val < 0 + 1024; omega⟩)]
  congr 1
  funext a; apply Fin.ext; fin_cases a <;> rfl

/-- The scratch's contents at an index are what its whole memref reads there. -/
theorem at_eq_read (c : Dev nD) (f : BufOf (F := F) c wM) (i : S384x1024.Idx) : (f : S384x1024.Idx → Elt F .bf16) i = wM.view.read (Elt F) f i := rfl

/-- After the first point's stores the scratch holds the weights. -/
theorem filled_holds (c : Dev nD) (x0 : Vec F S2040x128 .f32) (wb : BufOf (F := F) c wM) : Holds c x0 (filled c x0 wb) := by
  intro r ch
  have hr := r.isLt
  refine ⟨?_, ?_, ?_⟩
  · refine (at_eq_read c (filled c x0 wb) _).trans ?_
    unfold filled
    rw [View.read_writes_cons_unit_of_not_mem _ _ _ _ _ _ rfl 0 (Or.inl (by show r.val < 256; omega)),
      View.read_writes_cons_unit_of_not_mem _ _ _ _ _ _ rfl 0 (Or.inl (by show r.val < 128; omega)),
      View.read_writes_cons_unit_of_mem _ _ _ _ _ _ (ix2 ⟨r.val, by omega⟩ ch : S86x1024.Idx) rfl (by
        intro a; fin_cases a
        · show r.val = 0 + r.val; omega
        · show ch.val = 0 + ch.val; omega)]
    exact update_row _ _ r ch
  · refine (at_eq_read c (filled c x0 wb) _).trans ?_
    unfold filled
    rw [View.read_writes_cons_unit_of_not_mem _ _ _ _ _ _ rfl 0 (Or.inl (by show 128 + r.val < 256; omega)),
      View.read_writes_cons_unit_of_mem _ _ _ _ _ _ (ix2 ⟨r.val, by omega⟩ ch : S86x1024.Idx) rfl (by
        intro a; fin_cases a
        · rfl
        · show ch.val = 0 + ch.val; omega)]
    exact update_row _ _ r ch
  · refine (at_eq_read c (filled c x0 wb) _).trans ?_
    unfold filled
    rw [View.read_writes_cons_unit_of_mem _ _ _ _ _ _ (ix2 ⟨r.val, by omega⟩ ch : S86x1024.Idx) rfl (by
        intro a; fin_cases a
        · rfl
        · show ch.val = 0 + ch.val; omega)]
    exact update_row _ _ r ch

/-- The load of the staged weights reads them. -/
theorem load_weights {m : Memref sig .tc .vmem S2040x128 .f32} (h : m.IsWhole) (x0 : Vec F S2040x128 .f32) (inb : ∀ a, (![0, 0] : Fin 2 → ℕ) a + S2040x128.size a ≤ S2040x128.size a) :
    View.readAt (Elt F) m.view (Rect.unit (s := S2040x128) ![0, 0] S2040x128.size inb).toLoadRect (h.unread x0) = x0 := by
  funext i
  rw [h.readAt_unread]
  congr 1
  funext a; apply Fin.ext; fin_cases a
  · show 0 + 1 * (i 0).val = (i 0).val; omega
  · show 0 + 1 * (i 1).val = (i 1).val; omega

end Cert.KernelIdeal.Gen

end
-- ==== Proof.Rings.lean ====
/- What the kernel keeps from one point to the next: the rows of weights, the input's slots and copies, the output's. -/
module

public import proofs.«01_k».proof.Proof.Weights
public import Idealize.ShloMosaic.Lib.Ring.WriteBehind

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The copies out -/

section Rings
variable (c : Dev nD) (V : BufOf (F := F) c inM) (x0 : Vec F S2040x128 .f32) (x1 : Vec F S384x1 .f32)

/-- What piece `u` of the output is to hold: the results from block `u`, the rows of weights unpacked from `x0`, the biases `x1`. -/
def Good (u : Fin 32) (f : BufOf (F := F) c (piece u)) : Prop :=
  ∃ wb : BufOf (F := F) c wM, Holds c x0 wb ∧ (piece u).view.read (Elt F) f = tileVal (prod c V u wb x1)

/-- An unused output slot; a piece not written; a piece written; the copy of a slot to a piece, under way. -/
def outFree (s : Fin 3) : sProp 𝕄 := iprop(wcellP c s ∗ ∃ e, tileP c s e)
def outAhead (u : Fin 32) : sProp 𝕄 := iprop(∃ f, pieceP c u f)
def outBehind (u : Fin 32) : sProp 𝕄 := iprop(∃ f, ⌜Good c V x0 x1 u f⌝ ∗ pieceP c u f)
def outInfl (s : Fin 3) (u : Fin 32) : sProp 𝕄 := iprop(∃ f e, ⌜Good c V x0 x1 u f⌝ ∗ flightW c s u f e)

/-- The output slots and pieces before point `k`. -/
def writesAt (k : ℕ) : sProp 𝕄 := Ring.AtBΦ 3 (outFree c) (outInfl c V x0 x1) (outAhead c) (outBehind c V x0 x1) k
/-- The role of the `j`th slot from point `k`'s on. -/
abbrev outRole (k : ℕ) (j : Fin 3) : sProp 𝕄 := Ring.roleB 3 (outFree c) (outInfl c V x0 x1) k j
/-- What a point leaves alone of the output's slots and pieces. -/
def outRest (t : ℕ) : sProp 𝕄 :=
  iprop(bigSep (Ring.aheadSet (t + 1)) (outAhead c) ∗ bigSep (Ring.behindSet 3 t) (outBehind c V x0 x1))

theorem writes_open (t : ℕ) (h : t < 32) : writesAt c V x0 x1 t
    = iprop((outAhead c (Ring.bk 32 t) ∗ bigSep (Ring.aheadSet (t + 1)) (outAhead c)) ∗ bigSep (Ring.behindSet 3 t) (outBehind c V x0 x1)
        ∗ outRole c V x0 x1 t 0 ∗ outRole c V x0 x1 t 1 ∗ outRole c V x0 x1 t 2) := by
  unfold writesAt
  rw [Ring.AtBΦ_lt _ _ _ _ _ t h]
  unfold Ring.AtB
  rw [Ring.aheadSet_open t h, bigSep_insert (Ring.bk_not_mem_aheadSet_succ t h), Ring.bigSep_fin3]
  rfl

theorem role_boot (t : ℕ) (h : t < 3) : outRole c V x0 x1 t 0 = outFree c (Ring.sl 3 t) :=
  Ring.roleB_of_free _ _ _ t 0 (by simp only [Fin.val_zero]; omega)
theorem role_here (t : ℕ) (h : 3 ≤ t) : outRole c V x0 x1 t 0 = outInfl c V x0 x1 (Ring.sl 3 t) (Ring.bk 32 (t - 3)) :=
  Ring.roleB_of_infl _ _ _ t 0 (by simp only [Fin.val_zero]; omega)
theorem role_one (t : ℕ) (h : 2 ≤ t) : outRole c V x0 x1 t 1 = outInfl c V x0 x1 (Ring.sl 3 (t + 1)) (Ring.bk 32 (t - 2)) := by
  rw [outRole, Ring.roleB_of_infl _ _ _ t 1 (by simp only [Fin.val_one]; omega), Fin.val_one, show t + 1 - 3 = t - 2 by omega]
theorem role_two (t : ℕ) (h : 1 ≤ t) : outRole c V x0 x1 t 2 = outInfl c V x0 x1 (Ring.sl 3 (t + 2)) (Ring.bk 32 (t - 1)) := by
  rw [outRole, Ring.roleB_of_infl _ _ _ t 2 (by simp only [Fin.val_two]; omega), Fin.val_two, show t + 2 - 3 = t - 1 by omega]

/-- The slots' roles seen from the next point: one on, the last one carrying this point's piece. -/
theorem role_next (t : ℕ) : iprop(outRole c V x0 x1 (t + 1) 0 ∗ outRole c V x0 x1 (t + 1) 1 ∗ outRole c V x0 x1 (t + 1) 2)
    = iprop(outRole c V x0 x1 t 1 ∗ outRole c V x0 x1 t 2 ∗ outInfl c V x0 x1 (Ring.sl 3 t) (Ring.bk 32 t)) := by
  have e0 : outRole c V x0 x1 (t + 1) 0 = outRole c V x0 x1 t 1 := by
    unfold outRole Ring.roleB
    simp only [Fin.val_zero, Fin.val_one, Nat.add_zero]
    by_cases h : 3 ≤ t + 1
    · rw [if_pos (by omega), if_pos (by omega)]
    · rw [if_neg (by omega), if_neg (by omega)]
  have e1 : outRole c V x0 x1 (t + 1) 1 = outRole c V x0 x1 t 2 := by
    unfold outRole Ring.roleB
    simp only [Fin.val_one, Fin.val_two]
    by_cases h : 3 ≤ t + 2
    · rw [if_pos (by omega), if_pos (by omega)]
    · rw [if_neg (by omega), if_neg (by omega)]
  have e2 : outRole c V x0 x1 (t + 1) 2 = outInfl c V x0 x1 (Ring.sl 3 t) (Ring.bk 32 t) := by
    rw [outRole, Ring.roleB_of_infl _ _ _ (t + 1) 2 (by simp only [Fin.val_two]; omega), Fin.val_two, show t + 1 + 2 = t + 3 from rfl, Ring.sl_add, show t + 3 - 3 = t by omega]
  rw [e0, e1, e2]

theorem writes_next_boot (t : ℕ) (h : t < 3) : writesAt c V x0 x1 (t + 1)
    = iprop(bigSep (Ring.aheadSet (t + 1)) (outAhead c) ∗ bigSep (Ring.behindSet 3 t) (outBehind c V x0 x1)
        ∗ outRole c V x0 x1 t 1 ∗ outRole c V x0 x1 t 2 ∗ outInfl c V x0 x1 (Ring.sl 3 t) (Ring.bk 32 t)) := by
  unfold writesAt
  rw [Ring.AtBΦ_lt _ _ _ _ _ (t + 1) (by omega), ← role_next]
  unfold Ring.AtB
  rw [Ring.behindSet_boot 3 (t + 1) (by omega), Ring.behindSet_boot 3 t (by omega), Ring.bigSep_fin3]

theorem writes_next (t : ℕ) (h3 : 3 ≤ t) (h : t + 1 < 32) : writesAt c V x0 x1 (t + 1)
    = iprop(bigSep (Ring.aheadSet (t + 1)) (outAhead c) ∗ (outBehind c V x0 x1 (Ring.bk 32 (t - 3)) ∗ bigSep (Ring.behindSet 3 t) (outBehind c V x0 x1))
        ∗ outRole c V x0 x1 t 1 ∗ outRole c V x0 x1 t 2 ∗ outInfl c V x0 x1 (Ring.sl 3 t) (Ring.bk 32 t)) := by
  unfold writesAt
  rw [Ring.AtBΦ_lt _ _ _ _ _ (t + 1) h, ← role_next]
  unfold Ring.AtB
  rw [Ring.behindSet_close 3 t h3 (by omega), bigSep_insert (Ring.bk_not_mem_behindSet 3 t h3 (by omega)), Ring.bigSep_fin3]
  rfl

/-- After the last point every piece is written and every slot unused. -/
theorem writes_last (t : ℕ) (h : t + 1 = 32) : writesAt c V x0 x1 (t + 1)
    = iprop((outBehind c V x0 x1 (Ring.bk 32 (t - 3)) ∗ outBehind c V x0 x1 (Ring.bk 32 (t - 2)) ∗ outBehind c V x0 x1 (Ring.bk 32 (t - 1))
        ∗ outBehind c V x0 x1 (Ring.bk 32 t) ∗ bigSep (Ring.behindSet 3 t) (outBehind c V x0 x1))
        ∗ outFree c (Ring.sl 3 t) ∗ outFree c (Ring.sl 3 (t + 1)) ∗ outFree c (Ring.sl 3 (t + 2))) := by
  obtain rfl : t = 31 := by omega
  have e : (Finset.univ : Finset (Fin 32)) = insert (Ring.bk 32 (31 - 3)) (insert (Ring.bk 32 (31 - 2)) (insert (Ring.bk 32 (31 - 1)) (insert (Ring.bk 32 31) (Ring.behindSet 3 31)))) := by decide
  have h0 : (Ring.bk 32 (31 - 3) : Fin 32) ∉ insert (Ring.bk 32 (31 - 2)) (insert (Ring.bk 32 (31 - 1)) (insert (Ring.bk 32 31) (Ring.behindSet 3 31))) := by decide
  have h1 : (Ring.bk 32 (31 - 2) : Fin 32) ∉ insert (Ring.bk 32 (31 - 1)) (insert (Ring.bk 32 31) (Ring.behindSet 3 31)) := by decide
  have h2 : (Ring.bk 32 (31 - 1) : Fin 32) ∉ insert (Ring.bk 32 31) (Ring.behindSet 3 31) := by decide
  have h4 : (Ring.bk 32 31 : Fin 32) ∉ Ring.behindSet 3 31 := by decide
  unfold writesAt
  rw [Ring.AtBΦ_end _ _ _ _ _ (31 + 1) rfl]
  unfold Ring.AtBEnd
  rw [e, bigSep_insert h0, bigSep_insert h1, bigSep_insert h2, bigSep_insert h4, bigSep_univ_eq_bigSepL [Ring.sl 3 31, Ring.sl 3 (31 + 1), Ring.sl 3 (31 + 2)] (by decide) (by decide) (outFree c)]
  rfl

/-! ## The copies in, and all of it -/

/-- The input slots and blocks before point `k`. -/
def readsAt (k : ℕ) : sProp 𝕄 :=
  if k = 0 then Ring.At₀ (cells c) (slots c) (srcs c V) else Ring.At 2 (cells c) (slots c) (srcs c V) (flights c V) k

/-- The weight rows before point `k`: unpacked from the first point on. -/
def weightsAt (k : ℕ) : sProp 𝕄 := iprop(∃ wb, ⌜k ≠ 0 → Holds c x0 wb⌝ ∗ wholeAt c wM wb)

/-- What the kernel keeps between points. -/
def heldAt (k : ℕ) : sProp 𝕄 := iprop(weightsAt c x0 k ∗ readsAt c V k ∗ writesAt c V x0 x1 k)

end Rings

end Cert.KernelIdeal.Gen

end
-- ==== Proof.RunMid.lean ====
/- The body at a point in the middle of the grid, where it starts the copies of the block two ahead, waits for its own block,
   waits until the copy out three points back has freed its tile, and starts its own copy out. -/
module

public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body at point `t` on staging memrefs. -/
abbrev bodyAt (t : Fin cfg0.N) (arg2 : Memref sig .tc .vmem S2040x128 .f32) (harg2 : arg2.IsWhole) (arg3 : Memref sig .tc .vmem S384x1 .f32) (harg3 : arg3.IsWhole) :=
  cc0__yolo_body (F := F) (grid0.coords t) inM (Memref.isWhole_whole _) arg2 harg2 arg3 harg3 outM (Memref.isWhole_whole _) xM (Memref.isWhole_whole _) oM (Memref.isWhole_whole _) wM (Memref.isWhole_whole _) cc0_scratch3 cc0_scratch4

set_option maxHeartbeats 2000000 in
/-- The body in the middle of the grid. -/
theorem runMid (c : Dev nD) (t : Fin cfg0.N) (arg2 : Memref sig .tc .vmem S2040x128 .f32) (harg2 : arg2.IsWhole) (arg3 : Memref sig .tc .vmem S384x1 .f32) (harg3 : arg3.IsWhole)
    (hc0 : ¬isFirst (grid0.coords t)) (hc1 : issues (grid0.coords t)) (hc2 : refills (grid0.coords t)) (hc3 : ¬isLast (grid0.coords t))
    (x0 : Vec F S2040x128 .f32) (x1 : Vec F S384x1 .f32) (V : BufOf (F := F) c inM) (wb : BufOf (F := F) c wM)
    (fo : BufOf (F := F) c (piece (Ring.bk 32 (t.val - 3)))) (fe : BufOf (F := F) c (tile (Ring.sl 3 t.val))) :
      ∀ (W : Waits sig Unit) (K : PUnit → sProp 𝕄),
        iprop(owns (c : Thread nD τ) arg2 fullShare x0 ∗ owns (c : Thread nD τ) arg3 fullShare x1 ∗ wholeAt c wM wb
            ∗ Ring.inflight (flights c V) (Ring.sl 3 t.val) (Ring.bk 32 t.val)
            ∗ srcs c V (Ring.bk 32 (t.val + 2)) ∗ Ring.free (cells c) (slots c) (Ring.sl 3 (t.val + 2))
            ∗ (∃ f, pieceP c (Ring.bk 32 t.val) f) ∗ flightW c (Ring.sl 3 t.val) (Ring.bk 32 (t.val - 3)) fo fe
            ∗ owes (c : Thread nD τ) 0 W
            ∗ (iprop(owns (c : Thread nD τ) arg2 fullShare x0 ∗ owns (c : Thread nD τ) arg3 fullShare x1 ∗ wholeAt c wM wb
                ∗ srcs c V (Ring.bk 32 t.val) ∗ Ring.free (cells c) (slots c) (Ring.sl 3 t.val)
                ∗ Ring.inflight (flights c V) (Ring.sl 3 (t.val + 2)) (Ring.bk 32 (t.val + 2))
                ∗ pieceP c (Ring.bk 32 (t.val - 3)) fo ∗ outgoing c (Ring.sl 3 t.val) (Ring.bk 32 t.val) (prod c V (Ring.bk 32 t.val) wb x1)
                ∗ ∃ W', owes (c : Thread nD τ) 0 W') -∗ K ⟨⟩))
          ⊢ wp frame (wpE (defs₀ (F := F)) Variants.none c none) Set.univ (bodyAt t arg2 harg2 arg3 harg3) K := by
    intro W K
    haveI : Fact (¬isFirst (grid0.coords t)) := ⟨hc0⟩
    haveI : Fact (issues (grid0.coords t)) := ⟨hc1⟩
    haveI : Fact (refills (grid0.coords t)) := ⟨hc2⟩
    haveI : Fact (¬isLast (grid0.coords t)) := ⟨hc3⟩
    have hy : k0_pay6 (View.readAt (Elt F) xM.view (Rect.unit (s := S3x361x1024) (k0_off13 (grid0.coords t)) S1x361x1024.size (k0_off13_inb (grid0.coords t))).toLoadRect (fill c V (Ring.bk 32 t.val)))
        (View.readAt (Elt F) wM.view (Rect.unit (s := S384x1024) ![0, 0] S384x1024.size inb_S384x1024_S384x1024_0_0).toLoadRect wb)
        (View.readAt (Elt F) arg3.view (Rect.unit (s := S384x1) ![0, 0] S384x1.size inb_S384x1_S384x1_0_0).toLoadRect (harg3.unread x1)) = prod c V (Ring.bk 32 t.val) wb x1 := by
      rw [load_slot c V _ (off13_eq t), load_w, load_bias]; rfl
    simp only [bodyAt, cc0__yolo_body_eq_skeleton]; unfold cc0__yolo_body_skel
    simp only [k0_part1_eq_skeleton, k0_part2_eq_skeleton, k0_part3_eq_skeleton, k0_part4_eq_skeleton, k0_part5_eq_skeleton]
    unfold owns Ring.free Ring.inflight
    iintro ⟨⟨%f0, %hf0, H0⟩, ⟨%f1, %hf1, H1⟩, Hw, ⟨%ff, Hf0, Hf1⟩, ⟨Hs0, Hs1⟩, ⟨⟨Hc0, Hc1⟩, ⟨%fs, Hd0, Hd1⟩⟩, ⟨%fp, Hp⟩, HF, HW, Hk⟩
    obtain rfl := harg2.eq_unread hf0; obtain rfl := harg3.eq_unread hf1
    sl_exec (disch := first | sl_exact hc0 | sl_exact hc1 | sl_exact hc2 | sl_exact hc3)
    ihave Hs := (join_landed c V (Ring.sl 3 t.val) (Ring.bk 32 t.val) ff.1 ff.2) $$ [Hf0_dst Hf1_dst]
    · isplitl [Hf0_dst]
      · iexact Hf0_dst
      · iexact Hf1_dst
    sl_exec (disch := first | sl_exact hc0 | sl_exact hc1 | sl_exact hc2 | sl_exact hc3)
    sl_exec (disch := first | sl_exact hc0 | sl_exact hc1 | sl_exact hc2 | sl_exact hc3)
    ihave Ho := (outgoing_of c t (Ring.bk 32 t.val) _ _ hy fe fp) $$ [HF]
    · iexact HF
    ihave Hh := (split_slot c V (Ring.sl 3 t.val) (Ring.bk 32 t.val)) $$ [Hs]
    · iexact Hs
    icases Hh with ⟨Hh0, Hh1⟩
    sl_step
    iapply Hk
    isplitl [H0]
    · iexists _; isplitr
      · ipureintro; exact harg2.read_unread _
      · iexact H0
    isplitl [H1]
    · iexists _; isplitr
      · ipureintro; exact harg3.read_unread _
      · iexact H1
    isplitl [Hw]
    · iexact Hw
    isplitl [Hf0_src Hf1_src]
    · isplitl [Hf0_src]
      · iexact Hf0_src
      · iexact Hf1_src
    isplitl [Hf0 Hf1 Hh0 Hh1]
    · isplitl [Hf0 Hf1]
      · isplitl [Hf0]
        · iexact Hf0
        · iexact Hf1
      · iexists ((fill c V (Ring.bk 32 t.val), fill c V (Ring.bk 32 t.val)) : BufOf (F := F) c (half (Ring.sl 3 t.val) 0) × BufOf (F := F) c (half (Ring.sl 3 t.val) 1))
        isplitl [Hh0]
        · iexact Hh0
        · iexact Hh1
    isplitl [Hc0 Hc1]
    · iexists fs
      isplitl [Hc0]
      · iexact Hc0
      · iexact Hc1
    isplitl [HF_dst]
    · iexact HF_dst
    isplitl [Ho]
    · iexact Ho
    · iexists _; iexact HW

end Cert.KernelIdeal.Gen

end
-- ==== Proof.RunFirst.lean ====
/- The body at the first point of the grid, where it starts the copies of three blocks, fills the weight scratch, waits for its
   own block, and starts its copy out. -/
module

public import proofs.«01_k».proof.Proof.RunMid
public import proofs.«01_k».proof.Proof.Weights

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the first point. -/
theorem runFirst (c : Dev nD) (t : Fin cfg0.N) (arg2 : Memref sig .tc .vmem S2040x128 .f32) (harg2 : arg2.IsWhole) (arg3 : Memref sig .tc .vmem S384x1 .f32) (harg3 : arg3.IsWhole)
    (hc0 : isFirst (grid0.coords t)) (hc1 : issues (grid0.coords t)) (hc2 : ¬refills (grid0.coords t)) (hc3 : ¬isLast (grid0.coords t))
    (x0 : Vec F S2040x128 .f32) (x1 : Vec F S384x1 .f32) (V : BufOf (F := F) c inM) :
      ∀ (W : Waits sig Unit) (K : PUnit → sProp 𝕄),
        iprop(owns (c : Thread nD τ) arg2 fullShare x0 ∗ owns (c : Thread nD τ) arg3 fullShare x1 ∗ (∃ wb, wholeAt c wM wb)
            ∗ (srcs c V (Ring.bk 32 t.val) ∗ srcs c V (Ring.bk 32 (t.val + 1)) ∗ srcs c V (Ring.bk 32 (t.val + 2)))
            ∗ (Ring.free (cells c) (slots c) (Ring.sl 3 t.val) ∗ Ring.free (cells c) (slots c) (Ring.sl 3 (t.val + 1)) ∗ Ring.free (cells c) (slots c) (Ring.sl 3 (t.val + 2)))
            ∗ (∃ f, pieceP c (Ring.bk 32 t.val) f) ∗ wcellP c (Ring.sl 3 t.val) ∗ (∃ e, tileP c (Ring.sl 3 t.val) e)
            ∗ owes (c : Thread nD τ) 0 W
            ∗ (iprop(owns (c : Thread nD τ) arg2 fullShare x0 ∗ owns (c : Thread nD τ) arg3 fullShare x1
                ∗ srcs c V (Ring.bk 32 t.val) ∗ Ring.free (cells c) (slots c) (Ring.sl 3 t.val)
                ∗ Ring.inflight (flights c V) (Ring.sl 3 (t.val + 1)) (Ring.bk 32 (t.val + 1))
                ∗ Ring.inflight (flights c V) (Ring.sl 3 (t.val + 2)) (Ring.bk 32 (t.val + 2))
                ∗ (∃ wb, ⌜Holds c x0 wb⌝ ∗ wholeAt c wM wb ∗ outgoing c (Ring.sl 3 t.val) (Ring.bk 32 t.val) (prod c V (Ring.bk 32 t.val) wb x1))
                ∗ ∃ W', owes (c : Thread nD τ) 0 W') -∗ K ⟨⟩))
          ⊢ wp frame (wpE (defs₀ (F := F)) Variants.none c none) Set.univ (bodyAt t arg2 harg2 arg3 harg3) K := by
    intro W K
    haveI : Fact (isFirst (grid0.coords t)) := ⟨hc0⟩
    haveI : Fact (issues (grid0.coords t)) := ⟨hc1⟩
    haveI : Fact (¬refills (grid0.coords t)) := ⟨hc2⟩
    haveI : Fact (¬isLast (grid0.coords t)) := ⟨hc3⟩
    simp only [bodyAt, cc0__yolo_body_eq_skeleton]; unfold cc0__yolo_body_skel
    simp only [k0_part1_eq_skeleton, k0_part2_eq_skeleton, k0_part3_eq_skeleton, k0_part4_eq_skeleton, k0_part5_eq_skeleton]
    unfold owns Ring.free Ring.inflight
    iintro ⟨⟨%f0, %hf0, H0⟩, ⟨%f1, %hf1, H1⟩, ⟨%wb, Hw⟩, ⟨⟨Hr0, Hr1⟩, ⟨Hs0, Hs1⟩, ⟨Hq0, Hq1⟩⟩, ⟨⟨⟨Ha0, Ha1⟩, ⟨%fa, He0, He1⟩⟩, ⟨⟨Hb0, Hb1⟩, ⟨%fb, Hg0, Hg1⟩⟩, ⟨⟨Hc0, Hc1⟩, ⟨%fs, Hd0, Hd1⟩⟩⟩, ⟨%fp, Hp⟩, HF, ⟨%fe, Ht⟩, HW, Hk⟩
    obtain rfl := harg2.eq_unread hf0; obtain rfl := harg3.eq_unread hf1
    sl_exec (disch := first | sl_exact hc0 | sl_exact hc1 | sl_exact hc2 | sl_exact hc3)
    ihave Hs := (join_landed c V (Ring.sl 3 t.val) (Ring.bk 32 t.val) fa.1 fa.2) $$ [He0 He1]
    · isplitl [He0]
      · iexact He0
      · iexact He1
    sl_exec (disch := first | sl_exact hc0 | sl_exact hc1 | sl_exact hc2 | sl_exact hc3)
    have hx := load_weights harg2 x0 inb_S2040x128_S2040x128_0_0
    have hy : k0_pay6 (View.readAt (Elt F) xM.view (Rect.unit (s := S3x361x1024) (k0_off13 (grid0.coords t)) S1x361x1024.size (k0_off13_inb (grid0.coords t))).toLoadRect (fill c V (Ring.bk 32 t.val)))
        (View.readAt (Elt F) wM.view (Rect.unit (s := S384x1024) ![0, 0] S384x1024.size inb_S384x1024_S384x1024_0_0).toLoadRect
          (filled c (View.readAt (Elt F) arg2.view (Rect.unit (s := S2040x128) ![0, 0] S2040x128.size inb_S2040x128_S2040x128_0_0).toLoadRect (harg2.unread x0)) wb))
        (View.readAt (Elt F) arg3.view (Rect.unit (s := S384x1) ![0, 0] S384x1.size inb_S384x1_S384x1_0_0).toLoadRect (harg3.unread x1))
        = prod c V (Ring.bk 32 t.val) (filled c (View.readAt (Elt F) arg2.view (Rect.unit (s := S2040x128) ![0, 0] S2040x128.size inb_S2040x128_S2040x128_0_0).toLoadRect (harg2.unread x0)) wb) x1 := by
      rw [load_slot c V _ (off13_eq t), load_w, load_bias]; rfl
    ihave Ho := (outgoing_of c t (Ring.bk 32 t.val) _ _ hy fe fp) $$ [HF]
    · iexact HF
    ihave Hh := (split_slot c V (Ring.sl 3 t.val) (Ring.bk 32 t.val)) $$ [Hs]
    · iexact Hs
    icases Hh with ⟨Hh0, Hh1⟩
    sl_step
    iapply Hk
    isplitl [H0]
    · iexists _; isplitr
      · ipureintro; exact harg2.read_unread _
      · iexact H0
    isplitl [H1]
    · iexists _; isplitr
      · ipureintro; exact harg3.read_unread _
      · iexact H1
    isplitl [Hr0 Hr1]
    · isplitl [Hr0]
      · iexact Hr0
      · iexact Hr1
    isplitl [Ha0 Ha1 Hh0 Hh1]
    · isplitl [Ha0 Ha1]
      · isplitl [Ha0]
        · iexact Ha0
        · iexact Ha1
      · iexists ((fill c V (Ring.bk 32 t.val), fill c V (Ring.bk 32 t.val)) : BufOf (F := F) c (half (Ring.sl 3 t.val) 0) × BufOf (F := F) c (half (Ring.sl 3 t.val) 1))
        isplitl [Hh0]
        · iexact Hh0
        · iexact Hh1
    isplitl [Hb0 Hb1]
    · iexists fb
      isplitl [Hb0]
      · iexact Hb0
      · iexact Hb1
    isplitl [Hc0 Hc1]
    · iexists fs
      isplitl [Hc0]
      · iexact Hc0
      · iexact Hc1
    isplitl [Hw Ho]
    · iexists (filled c (View.readAt (Elt F) arg2.view (Rect.unit (s := S2040x128) ![0, 0] S2040x128.size inb_S2040x128_S2040x128_0_0).toLoadRect (harg2.unread x0)) wb)
      isplitr
      · ipureintro; rw [hx]; exact filled_holds c _ wb
      isplitl [Hw]
      · iexact Hw
      · iexact Ho
    · iexists _; iexact HW

end Cert.KernelIdeal.Gen

end
-- ==== Proof.RunEarly.lean ====
/- The body at the second and the third point of the grid, where its tile has not been used yet. -/
module

public import proofs.«01_k».proof.Proof.RunMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the second and the third point. -/
theorem runEarly (c : Dev nD) (t : Fin cfg0.N) (arg2 : Memref sig .tc .vmem S2040x128 .f32) (harg2 : arg2.IsWhole) (arg3 : Memref sig .tc .vmem S384x1 .f32) (harg3 : arg3.IsWhole)
    (hc0 : ¬isFirst (grid0.coords t)) (hc1 : issues (grid0.coords t)) (hc2 : ¬refills (grid0.coords t)) (hc3 : ¬isLast (grid0.coords t))
    (x0 : Vec F S2040x128 .f32) (x1 : Vec F S384x1 .f32) (V : BufOf (F := F) c inM) (wb : BufOf (F := F) c wM) :
      ∀ (W : Waits sig Unit) (K : PUnit → sProp 𝕄),
        iprop(owns (c : Thread nD τ) arg2 fullShare x0 ∗ owns (c : Thread nD τ) arg3 fullShare x1 ∗ wholeAt c wM wb
            ∗ Ring.inflight (flights c V) (Ring.sl 3 t.val) (Ring.bk 32 t.val)
            ∗ srcs c V (Ring.bk 32 (t.val + 2)) ∗ Ring.free (cells c) (slots c) (Ring.sl 3 (t.val + 2))
            ∗ (∃ f, pieceP c (Ring.bk 32 t.val) f) ∗ wcellP c (Ring.sl 3 t.val) ∗ (∃ e, tileP c (Ring.sl 3 t.val) e)
            ∗ owes (c : Thread nD τ) 0 W
            ∗ (iprop(owns (c : Thread nD τ) arg2 fullShare x0 ∗ owns (c : Thread nD τ) arg3 fullShare x1 ∗ wholeAt c wM wb
                ∗ srcs c V (Ring.bk 32 t.val) ∗ Ring.free (cells c) (slots c) (Ring.sl 3 t.val)
                ∗ Ring.inflight (flights c V) (Ring.sl 3 (t.val + 2)) (Ring.bk 32 (t.val + 2))
                ∗ outgoing c (Ring.sl 3 t.val) (Ring.bk 32 t.val) (prod c V (Ring.bk 32 t.val) wb x1)
                ∗ ∃ W', owes (c : Thread nD τ) 0 W') -∗ K ⟨⟩))
          ⊢ wp frame (wpE (defs₀ (F := F)) Variants.none c none) Set.univ (bodyAt t arg2 harg2 arg3 harg3) K := by
    intro W K
    haveI : Fact (¬isFirst (grid0.coords t)) := ⟨hc0⟩
    haveI : Fact (issues (grid0.coords t)) := ⟨hc1⟩
    haveI : Fact (¬refills (grid0.coords t)) := ⟨hc2⟩
    haveI : Fact (¬isLast (grid0.coords t)) := ⟨hc3⟩
    have hy : k0_pay6 (View.readAt (Elt F) xM.view (Rect.unit (s := S3x361x1024) (k0_off13 (grid0.coords t)) S1x361x1024.size (k0_off13_inb (grid0.coords t))).toLoadRect (fill c V (Ring.bk 32 t.val)))
        (View.readAt (Elt F) wM.view (Rect.unit (s := S384x1024) ![0, 0] S384x1024.size inb_S384x1024_S384x1024_0_0).toLoadRect wb)
        (View.readAt (Elt F) arg3.view (Rect.unit (s := S384x1) ![0, 0] S384x1.size inb_S384x1_S384x1_0_0).toLoadRect (harg3.unread x1)) = prod c V (Ring.bk 32 t.val) wb x1 := by
      rw [load_slot c V _ (off13_eq t), load_w, load_bias]; rfl
    simp only [bodyAt, cc0__yolo_body_eq_skeleton]; unfold cc0__yolo_body_skel
    simp only [k0_part1_eq_skeleton, k0_part2_eq_skeleton, k0_part3_eq_skeleton, k0_part4_eq_skeleton, k0_part5_eq_skeleton]
    unfold owns Ring.free Ring.inflight
    iintro ⟨⟨%f0, %hf0, H0⟩, ⟨%f1, %hf1, H1⟩, Hw, ⟨%ff, Hf0, Hf1⟩, ⟨Hs0, Hs1⟩, ⟨⟨Hc0, Hc1⟩, ⟨%fs, Hd0, Hd1⟩⟩, ⟨%fp, Hp⟩, HF, ⟨%fe, Ht⟩, HW, Hk⟩
    obtain rfl := harg2.eq_unread hf0; obtain rfl := harg3.eq_unread hf1
    sl_exec (disch := first | sl_exact hc0 | sl_exact hc1 | sl_exact hc2 | sl_exact hc3)
    ihave Hs := (join_landed c V (Ring.sl 3 t.val) (Ring.bk 32 t.val) ff.1 ff.2) $$ [Hf0_dst Hf1_dst]
    · isplitl [Hf0_dst]
      · iexact Hf0_dst
      · iexact Hf1_dst
    sl_exec (disch := first | sl_exact hc0 | sl_exact hc1 | sl_exact hc2 | sl_exact hc3)
    sl_exec (disch := first | sl_exact hc0 | sl_exact hc1 | sl_exact hc2 | sl_exact hc3)
    ihave Ho := (outgoing_of c t (Ring.bk 32 t.val) _ _ hy fe fp) $$ [HF]
    · iexact HF
    ihave Hh := (split_slot c V (Ring.sl 3 t.val) (Ring.bk 32 t.val)) $$ [Hs]
    · iexact Hs
    icases Hh with ⟨Hh0, Hh1⟩
    sl_step
    iapply Hk
    isplitl [H0]
    · iexists _; isplitr
      · ipureintro; exact harg2.read_unread _
      · iexact H0
    isplitl [H1]
    · iexists _; isplitr
      · ipureintro; exact harg3.read_unread _
      · iexact H1
    isplitl [Hw]
    · iexact Hw
    isplitl [Hf0_src Hf1_src]
    · isplitl [Hf0_src]
      · iexact Hf0_src
      · iexact Hf1_src
    isplitl [Hf0 Hf1 Hh0 Hh1]
    · isplitl [Hf0 Hf1]
      · isplitl [Hf0]
        · iexact Hf0
        · iexact Hf1
      · iexists ((fill c V (Ring.bk 32 t.val), fill c V (Ring.bk 32 t.val)) : BufOf (F := F) c (half (Ring.sl 3 t.val) 0) × BufOf (F := F) c (half (Ring.sl 3 t.val) 1))
        isplitl [Hh0]
        · iexact Hh0
        · iexact Hh1
    isplitl [Hc0 Hc1]
    · iexists fs
      isplitl [Hc0]
      · iexact Hc0
      · iexact Hc1
    isplitl [Ho]
    · iexact Ho
    · iexists _; iexact HW

end Cert.KernelIdeal.Gen

end
-- ==== Proof.RunLate.lean ====
/- The body at the last point but one, where no copy is left to start. -/
module

public import proofs.«01_k».proof.Proof.RunMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The body at the last point but one. -/
theorem runLate (c : Dev nD) (t : Fin cfg0.N) (arg2 : Memref sig .tc .vmem S2040x128 .f32) (harg2 : arg2.IsWhole) (arg3 : Memref sig .tc .vmem S384x1 .f32) (harg3 : arg3.IsWhole)
    (hc0 : ¬isFirst (grid0.coords t)) (hc1 : ¬issues (grid0.coords t)) (hc2 : refills (grid0.coords t)) (hc3 : ¬isLast (grid0.coords t))
    (x0 : Vec F S2040x128 .f32) (x1 : Vec F S384x1 .f32) (V : BufOf (F := F) c inM) (wb : BufOf (F := F) c wM)
    (fo : BufOf (F := F) c (piece (Ring.bk 32 (t.val - 3)))) (fe : BufOf (F := F) c (tile (Ring.sl 3 t.val))) :
      ∀ (W : Waits sig Unit) (K : PUnit → sProp 𝕄),
        iprop(owns (c : Thread nD τ) arg2 fullShare x0 ∗ owns (c : Thread nD τ) arg3 fullShare x1 ∗ wholeAt c wM wb
            ∗ Ring.inflight (flights c V) (Ring.sl 3 t.val) (Ring.bk 32 t.val)
            ∗ (∃ f, pieceP c (Ring.bk 32 t.val) f) ∗ flightW c (Ring.sl 3 t.val) (Ring.bk 32 (t.val - 3)) fo fe
            ∗ owes (c : Thread nD τ) 0 W
            ∗ (iprop(owns (c : Thread nD τ) arg2 fullShare x0 ∗ owns (c : Thread nD τ) arg3 fullShare x1 ∗ wholeAt c wM wb
                ∗ srcs c V (Ring.bk 32 t.val) ∗ Ring.free (cells c) (slots c) (Ring.sl 3 t.val)
                ∗ pieceP c (Ring.bk 32 (t.val - 3)) fo ∗ outgoing c (Ring.sl 3 t.val) (Ring.bk 32 t.val) (prod c V (Ring.bk 32 t.val) wb x1)
                ∗ ∃ W', owes (c : Thread nD τ) 0 W') -∗ K ⟨⟩))
          ⊢ wp frame (wpE (defs₀ (F := F)) Variants.none c none) Set.univ (bodyAt t arg2 harg2 arg3 harg3) K := by
    intro W K
    haveI : Fact (¬isFirst (grid0.coords t)) := ⟨hc0⟩
    haveI : Fact (¬issues (grid0.coords t)) := ⟨hc1⟩
    haveI : Fact (refills (grid0.coords t)) := ⟨hc2⟩
    haveI : Fact (¬isLast (grid0.coords t)) := ⟨hc3⟩
    have hy : k0_pay6 (View.readAt (Elt F) xM.view (Rect.unit (s := S3x361x1024) (k0_off13 (grid0.coords t)) S1x361x1024.size (k0_off13_inb (grid0.coords t))).toLoadRect (fill c V (Ring.bk 32 t.val)))
        (View.readAt (Elt F) wM.view (Rect.unit (s := S384x1024) ![0, 0] S384x1024.size inb_S384x1024_S384x1024_0_0).toLoadRect wb)
        (View.readAt (Elt F) arg3.view (Rect.unit (s := S384x1) ![0, 0] S384x1.size inb_S384x1_S384x1_0_0).toLoadRect (harg3.unread x1)) = prod c V (Ring.bk 32 t.val) wb x1 := by
      rw [load_slot c V _ (off13_eq t), load_w, load_bias]; rfl
    simp only [bodyAt, cc0__yolo_body_eq_skeleton]; unfold cc0__yolo_body_skel
    simp only [k0_part1_eq_skeleton, k0_part2_eq_skeleton, k0_part3_eq_skeleton, k0_part4_eq_skeleton, k0_part5_eq_skeleton]
    unfold owns Ring.free Ring.inflight
    iintro ⟨⟨%f0, %hf0, H0⟩, ⟨%f1, %hf1, H1⟩, Hw, ⟨%ff, Hf0, Hf1⟩, ⟨%fp, Hp⟩, HF, HW, Hk⟩
    obtain rfl := harg2.eq_unread hf0; obtain rfl := harg3.eq_unread hf1
    sl_exec (disch := first | sl_exact hc0 | sl_exact hc1 | sl_exact hc2 | sl_exact hc3)
    ihave Hs := (join_landed c V (Ring.sl 3 t.val) (Ring.bk 32 t.val) ff.1 ff.2) $$ [Hf0_dst Hf1_dst]
    · isplitl [Hf0_dst]
      · iexact Hf0_dst
      · iexact Hf1_dst
    sl_exec (disch := first | sl_exact hc0 | sl_exact hc1 | sl_exact hc2 | sl_exact hc3)
    sl_exec (disch := first | sl_exact hc0 | sl_exact hc1 | sl_exact hc2 | sl_exact hc3)
    ihave Ho := (outgoing_of c t (Ring.bk 32 t.val) _ _ hy fe fp) $$ [HF]
    · iexact HF
    ihave Hh := (split_slot c V (Ring.sl 3 t.val) (Ring.bk 32 t.val)) $$ [Hs]
    · iexact Hs
    icases Hh with ⟨Hh0, Hh1⟩
    sl_step
    iapply Hk
    isplitl [H0]
    · iexists _; isplitr
      · ipureintro; exact harg2.read_unread _
      · iexact H0
    isplitl [H1]
    · iexists _; isplitr
      · ipureintro; exact harg3.read_unread _
      · iexact H1
    isplitl [Hw]
    · iexact Hw
    isplitl [Hf0_src Hf1_src]
    · isplitl [Hf0_src]
      · iexact Hf0_src
      · iexact Hf1_src
    isplitl [Hf0 Hf1 Hh0 Hh1]
    · isplitl [Hf0 Hf1]
      · isplitl [Hf0]
        · iexact Hf0
        · iexact Hf1
      · iexists ((fill c V (Ring.bk 32 t.val), fill c V (Ring.bk 32 t.val)) : BufOf (F := F) c (half (Ring.sl 3 t.val) 0) × BufOf (F := F) c (half (Ring.sl 3 t.val) 1))
        isplitl [Hh0]
        · iexact Hh0
        · iexact Hh1
    isplitl [HF_dst]
    · iexact HF_dst
    isplitl [Ho]
    · iexact Ho
    · iexists _; iexact HW

end Cert.KernelIdeal.Gen

end
-- ==== Proof.RunLast.lean ====
/- The body at the last point, where it also waits for the copies out still under way. -/
module

public import proofs.«01_k».proof.Proof.RunMid

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A piece that the copy of a filled tile has reached reads the three results side by side. -/
theorem arrived_of (c : Dev nD) (t : Fin grid0.N) (u : Fin 32) (y y' : FVec F S384x361 .f32) (hy : y = y') (e : BufOf (F := F) c (tile (Ring.sl 3 t.val))) (f : BufOf (F := F) c (piece u)) :
    (pieceP c u ((piece u).view.writes (Elt F) f [⟨Rect.whole S85x1083, ReadAs.same.apply ((tile (Ring.sl 3 t.val)).view.read (Elt F) (stored c t y e))⟩]) : sProp 𝕄)
      ⊢ iprop(∃ f, ⌜(piece u).view.read (Elt F) f = tileVal y'⌝ ∗ pieceP c u f) := by
  subst hy
  iintro H
  iexists _
  isplitr
  · ipureintro
    exact (View.read_writes_whole _ f _).trans (read_stored c t y e)
  · iexact H

set_option maxHeartbeats 2000000 in
/-- The body at the last point. -/
theorem runLast (c : Dev nD) (t : Fin cfg0.N) (arg2 : Memref sig .tc .vmem S2040x128 .f32) (harg2 : arg2.IsWhole) (arg3 : Memref sig .tc .vmem S384x1 .f32) (harg3 : arg3.IsWhole)
    (hc0 : ¬isFirst (grid0.coords t)) (hc1 : ¬issues (grid0.coords t)) (hc2 : refills (grid0.coords t)) (hc3 : isLast (grid0.coords t))
    (x0 : Vec F S2040x128 .f32) (x1 : Vec F S384x1 .f32) (V : BufOf (F := F) c inM) (wb : BufOf (F := F) c wM)
    (fo : BufOf (F := F) c (piece (Ring.bk 32 (t.val - 3)))) (fe : BufOf (F := F) c (tile (Ring.sl 3 t.val)))
    (f1 : BufOf (F := F) c (piece (Ring.bk 32 (t.val - 2)))) (e1 : BufOf (F := F) c (tile (Ring.sl 3 (t.val + 1)))) (f2 : BufOf (F := F) c (piece (Ring.bk 32 (t.val - 1)))) (e2 : BufOf (F := F) c (tile (Ring.sl 3 (t.val + 2)))) :
      ∀ (W : Waits sig Unit) (K : PUnit → sProp 𝕄),
        iprop(owns (c : Thread nD τ) arg2 fullShare x0 ∗ owns (c : Thread nD τ) arg3 fullShare x1 ∗ wholeAt c wM wb
            ∗ Ring.inflight (flights c V) (Ring.sl 3 t.val) (Ring.bk 32 t.val)
            ∗ (∃ f, pieceP c (Ring.bk 32 t.val) f) ∗ flightW c (Ring.sl 3 t.val) (Ring.bk 32 (t.val - 3)) fo fe
            ∗ flightW c (Ring.sl 3 (t.val + 1)) (Ring.bk 32 (t.val - 2)) f1 e1 ∗ flightW c (Ring.sl 3 (t.val + 2)) (Ring.bk 32 (t.val - 1)) f2 e2
            ∗ owes (c : Thread nD τ) 0 W
            ∗ (iprop(owns (c : Thread nD τ) arg2 fullShare x0 ∗ owns (c : Thread nD τ) arg3 fullShare x1 ∗ wholeAt c wM wb
                ∗ srcs c V (Ring.bk 32 t.val) ∗ Ring.free (cells c) (slots c) (Ring.sl 3 t.val)
                ∗ pieceP c (Ring.bk 32 (t.val - 3)) fo ∗ pieceP c (Ring.bk 32 (t.val - 2)) f1 ∗ pieceP c (Ring.bk 32 (t.val - 1)) f2
                ∗ (∃ f, ⌜(piece (Ring.bk 32 t.val)).view.read (Elt F) f = tileVal (prod c V (Ring.bk 32 t.val) wb x1)⌝ ∗ pieceP c (Ring.bk 32 t.val) f)
                ∗ ((wcellP c (Ring.sl 3 t.val) ∗ ∃ e, tileP c (Ring.sl 3 t.val) e) ∗ (wcellP c (Ring.sl 3 (t.val + 1)) ∗ ∃ e, tileP c (Ring.sl 3 (t.val + 1)) e)
                  ∗ (wcellP c (Ring.sl 3 (t.val + 2)) ∗ ∃ e, tileP c (Ring.sl 3 (t.val + 2)) e))
                ∗ ∃ W', owes (c : Thread nD τ) 0 W') -∗ K ⟨⟩))
          ⊢ wp frame (wpE (defs₀ (F := F)) Variants.none c none) Set.univ (bodyAt t arg2 harg2 arg3 harg3) K := by
    intro W K
    haveI : Fact (¬isFirst (grid0.coords t)) := ⟨hc0⟩
    haveI : Fact (¬issues (grid0.coords t)) := ⟨hc1⟩
    haveI : Fact (refills (grid0.coords t)) := ⟨hc2⟩
    haveI : Fact (isLast (grid0.coords t)) := ⟨hc3⟩
    have hy : k0_pay6 (View.readAt (Elt F) xM.view (Rect.unit (s := S3x361x1024) (k0_off13 (grid0.coords t)) S1x361x1024.size (k0_off13_inb (grid0.coords t))).toLoadRect (fill c V (Ring.bk 32 t.val)))
        (View.readAt (Elt F) wM.view (Rect.unit (s := S384x1024) ![0, 0] S384x1024.size inb_S384x1024_S384x1024_0_0).toLoadRect wb)
        (View.readAt (Elt F) arg3.view (Rect.unit (s := S384x1) ![0, 0] S384x1.size inb_S384x1_S384x1_0_0).toLoadRect (harg3.unread x1)) = prod c V (Ring.bk 32 t.val) wb x1 := by
      rw [load_slot c V _ (off13_eq t), load_w, load_bias]; rfl
    simp only [bodyAt, cc0__yolo_body_eq_skeleton]; unfold cc0__yolo_body_skel
    simp only [k0_part1_eq_skeleton, k0_part2_eq_skeleton, k0_part3_eq_skeleton, k0_part4_eq_skeleton, k0_part5_eq_skeleton]
    unfold owns Ring.free Ring.inflight
    iintro ⟨⟨%f0, %hf0, H0⟩, ⟨%f1, %hf1, H1⟩, Hw, ⟨%ff, Hf0, Hf1⟩, ⟨%fp, Hp⟩, HF, HF1, HF2, HW, Hk⟩
    obtain rfl := harg2.eq_unread hf0; obtain rfl := harg3.eq_unread hf1
    sl_exec (disch := first | sl_exact hc0 | sl_exact hc1 | sl_exact hc2 | sl_exact hc3)
    ihave Hs := (join_landed c V (Ring.sl 3 t.val) (Ring.bk 32 t.val) ff.1 ff.2) $$ [Hf0_dst Hf1_dst]
    · isplitl [Hf0_dst]
      · iexact Hf0_dst
      · iexact Hf1_dst
    sl_exec (disch := first | sl_exact hc0 | sl_exact hc1 | sl_exact hc2 | sl_exact hc3)
    sl_exec (disch := first | sl_exact hc0 | sl_exact hc1 | sl_exact hc2 | sl_exact hc3)
    ihave Ho := (arrived_of c t (Ring.bk 32 t.val) _ _ hy fe fp) $$ [Hp]
    · iexact Hp
    ihave Hh := (split_slot c V (Ring.sl 3 t.val) (Ring.bk 32 t.val)) $$ [Hs]
    · iexact Hs
    icases Hh with ⟨Hh0, Hh1⟩
    sl_step
    iapply Hk
    isplitl [H0]
    · iexists _; isplitr
      · ipureintro; exact harg2.read_unread _
      · iexact H0
    isplitl [H1]
    · iexists _; isplitr
      · ipureintro; exact harg3.read_unread _
      · iexact H1
    isplitl [Hw]
    · iexact Hw
    isplitl [Hf0_src Hf1_src]
    · isplitl [Hf0_src]
      · iexact Hf0_src
      · iexact Hf1_src
    isplitl [Hf0 Hf1 Hh0 Hh1]
    · isplitl [Hf0 Hf1]
      · isplitl [Hf0]
        · iexact Hf0
        · iexact Hf1
      · iexists ((fill c V (Ring.bk 32 t.val), fill c V (Ring.bk 32 t.val)) : BufOf (F := F) c (half (Ring.sl 3 t.val) 0) × BufOf (F := F) c (half (Ring.sl 3 t.val) 1))
        isplitl [Hh0]
        · iexact Hh0
        · iexact Hh1
    isplitl [HF_dst]
    · iexact HF_dst
    isplitl [HF1_dst]
    · iexact HF1_dst
    isplitl [HF2_dst]
    · iexact HF2_dst
    isplitl [Ho]
    · iexact Ho
    isplitl [HF HF_src HF1 HF1_src HF2 HF2_src]
    · isplitl [HF HF_src]
      · isplitl [HF]
        · iexact HF
        · iexists _; iexact HF_src
      isplitl [HF1 HF1_src]
      · isplitl [HF1]
        · iexact HF1
        · iexists _; iexact HF1_src
      · isplitl [HF2]
        · iexact HF2
        · iexists _; iexact HF2_src
    · iexists _; iexact HW

end Cert.KernelIdeal.Gen

end
-- ==== Proof.Steps.lean ====
/- One point of the grid: from what is held before it to what is held before the next. -/
module

public import proofs.«01_k».proof.Proof.Rings
public import proofs.«01_k».proof.Proof.RunFirst
public import proofs.«01_k».proof.Proof.RunEarly
public import proofs.«01_k».proof.Proof.RunMid
public import proofs.«01_k».proof.Proof.RunLate
public import proofs.«01_k».proof.Proof.RunLast

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Steps
variable (c : Dev nD) (V : BufOf (F := F) c inM) (x0 : Vec F S2040x128 .f32) (x1 : Vec F S384x1 .f32)

/-- A copy out of results computed from weights that hold the unpacked rows carries what its piece is to hold. -/
theorem infl_of (s : Fin 3) (u : Fin 32) (wb : BufOf (F := F) c wM) (h : Holds c x0 wb) :
    (outgoing c s u (prod c V u wb x1) : sProp 𝕄) ⊢ outInfl c V x0 x1 s u := by
  unfold outgoing outInfl
  iintro ⟨%f, %e, %hf, H⟩
  iexists f; iexists e
  isplitr
  · ipureintro; exact ⟨wb, h, hf⟩
  · iexact H

/-- A written piece whose contents are as they are to be. -/
theorem behind_of (u : Fin 32) (f : BufOf (F := F) c (piece u)) (h : Good c V x0 x1 u f) :
    (pieceP c u f : sProp 𝕄) ⊢ outBehind c V x0 x1 u := by
  unfold outBehind
  iintro H
  iexists f
  isplitr
  · ipureintro; exact h
  · iexact H

/-- The weight rows, held as they are to be. -/
theorem weights_of (k : ℕ) (wb : BufOf (F := F) c wM) (h : Holds c x0 wb) :
    (wholeAt c wM wb : sProp 𝕄) ⊢ weightsAt c x0 k := by
  unfold weightsAt
  iintro H
  iexists wb
  isplitr
  · ipureintro; exact fun _ => h
  · iexact H

variable (t : Fin cfg0.N) (arg2 : Memref sig .tc .vmem S2040x128 .f32) (harg2 : arg2.IsWhole) (arg3 : Memref sig .tc .vmem S384x1 .f32) (harg3 : arg3.IsWhole)

/-- What a point takes and what it returns, as one statement. -/
def StepOk : Prop :=
  ∀ (W : Waits sig Unit) (K : PUnit → sProp 𝕄),
    iprop(owns (c : Thread nD τ) arg2 fullShare x0 ∗ owns (c : Thread nD τ) arg3 fullShare x1 ∗ heldAt c V x0 x1 t.val ∗ owes (c : Thread nD τ) 0 W
        ∗ (iprop(owns (c : Thread nD τ) arg2 fullShare x0 ∗ owns (c : Thread nD τ) arg3 fullShare x1 ∗ heldAt c V x0 x1 (t.val + 1)
            ∗ ∃ W', owes (c : Thread nD τ) 0 W') -∗ K ⟨⟩))
      ⊢ wp frame (wpE (defs₀ (F := F)) Variants.none c none) Set.univ (bodyAt t arg2 harg2 arg3 harg3) K

set_option maxHeartbeats 1000000 in
/-- The first point. -/
theorem step_first (h : t.val = 0) : StepOk c V x0 x1 t arg2 harg2 arg3 harg3 := by
  have hN : t.val < 32 := lt_of_lt_of_eq t.isLt (show cfg0.N = 32 from N_0)
  have c0 : isFirst (grid0.coords t) := by rw [isFirst_iff]; omega
  have c1 : issues (grid0.coords t) := by rw [issues_iff]; omega
  have c2 : ¬refills (grid0.coords t) := by rw [refills_iff]; omega
  have c3 : ¬isLast (grid0.coords t) := by rw [isLast_iff]; omega
  intro W K
  unfold heldAt weightsAt readsAt
  rw [if_pos h, if_neg (show ¬t.val + 1 = 0 by omega), Ring.At₀_eq3' _ _ _ t.val h (by decide), Ring.At3_one' _ _ _ _ t.val h (by decide),
    writes_open c V x0 x1 t.val hN, role_boot c V x0 x1 t.val (by omega), writes_next_boot c V x0 x1 t.val (by omega)]
  unfold outAhead outFree
  iintro ⟨H0, H1, ⟨⟨%wb, -, Hw⟩, ⟨⟨Hs0, Hs1, Hs2, Hs⟩, Hf0, Hf1, Hf2⟩, ⟨⟨Hp, HA⟩, HB, ⟨Hc, He⟩, HR1, HR2⟩⟩, HW, Hk⟩
  iapply (runFirst c t arg2 harg2 arg3 harg3 c0 c1 c2 c3 x0 x1 V W K)
  isplitl [H0]
  · iexact H0
  isplitl [H1]
  · iexact H1
  isplitl [Hw]
  · iexists wb; iexact Hw
  isplitl [Hs0 Hs1 Hs2]
  · isplitl [Hs0]
    · iexact Hs0
    isplitl [Hs1]
    · iexact Hs1
    iexact Hs2
  isplitl [Hf0 Hf1 Hf2]
  · isplitl [Hf0]
    · iexact Hf0
    isplitl [Hf1]
    · iexact Hf1
    iexact Hf2
  isplitl [Hp]
  · iexact Hp
  isplitl [Hc]
  · iexact Hc
  isplitl [He]
  · iexact He
  isplitl [HW]
  · iexact HW
  iintro ⟨H0, H1, Hn, Hfn, Hi1, Hi2, ⟨%wb', %hwb, Hw, Ho⟩, HW⟩
  ihave Ho := (infl_of c V x0 x1 _ _ wb' hwb) $$ [Ho]
  · iexact Ho
  iapply Hk
  isplitl [H0]
  · iexact H0
  isplitl [H1]
  · iexact H1
  isplitr [HW]
  · isplitl [Hw]
    · iexists wb'; isplitr
      · ipureintro; exact fun _ => hwb
      · iexact Hw
    isplitl [Hn Hs Hi1 Hi2 Hfn]
    · isplitl [Hn Hs]
      · isplitl [Hn]
        · iexact Hn
        iexact Hs
      isplitl [Hi1]
      · iexact Hi1
      isplitl [Hi2]
      · iexact Hi2
      iexact Hfn
    isplitl [HA]
    · iexact HA
    isplitl [HB]
    · iexact HB
    isplitl [HR1]
    · iexact HR1
    isplitl [HR2]
    · iexact HR2
    iexact Ho
  · iexact HW

set_option maxHeartbeats 1000000 in
/-- The points before any slot is refilled. -/
theorem step_early (h1 : 1 ≤ t.val) (h3 : t.val < 3) : StepOk c V x0 x1 t arg2 harg2 arg3 harg3 := by
  have hN : t.val < 32 := lt_of_lt_of_eq t.isLt (show cfg0.N = 32 from N_0)
  have c0 : ¬isFirst (grid0.coords t) := by rw [isFirst_iff]; omega
  have c1 : issues (grid0.coords t) := by rw [issues_iff]; omega
  have c2 : ¬refills (grid0.coords t) := by rw [refills_iff]; omega
  have c3 : ¬isLast (grid0.coords t) := by rw [isLast_iff]; omega
  intro W K
  unfold heldAt weightsAt readsAt
  rw [if_neg (show ¬t.val = 0 by omega), if_neg (show ¬t.val + 1 = 0 by omega), Ring.At3_here _ _ _ _ t.val (by omega), Ring.At3_next _ _ _ _ t.val (by omega),
    Ring.slotAt3_next0 _ _ _ t.val (by omega), Ring.slotAt3_next1 _ _ _ t.val (by omega),
    writes_open c V x0 x1 t.val hN, role_boot c V x0 x1 t.val (by omega), writes_next_boot c V x0 x1 t.val (by omega)]
  unfold outAhead outFree
  iintro ⟨H0, H1, ⟨⟨%wb, %hwb, Hw⟩, ⟨⟨Hs2, Hs⟩, Hi0, Hi1, Hf2⟩, ⟨⟨Hp, HA⟩, HB, ⟨Hc, He⟩, HR1, HR2⟩⟩, HW, Hk⟩
  have hwb' : Holds c x0 wb := hwb (by omega)
  iapply (runEarly c t arg2 harg2 arg3 harg3 c0 c1 c2 c3 x0 x1 V wb W K)
  isplitl [H0]
  · iexact H0
  isplitl [H1]
  · iexact H1
  isplitl [Hw]
  · iexact Hw
  isplitl [Hi0]
  · iexact Hi0
  isplitl [Hs2]
  · iexact Hs2
  isplitl [Hf2]
  · iexact Hf2
  isplitl [Hp]
  · iexact Hp
  isplitl [Hc]
  · iexact Hc
  isplitl [He]
  · iexact He
  isplitl [HW]
  · iexact HW
  iintro ⟨H0, H1, Hw, Hn, Hfn, Hi2, Ho, HW⟩
  ihave Ho := (infl_of c V x0 x1 _ _ wb hwb') $$ [Ho]
  · iexact Ho
  iapply Hk
  isplitl [H0]
  · iexact H0
  isplitl [H1]
  · iexact H1
  isplitr [HW]
  · isplitl [Hw]
    · iexists wb; isplitr
      · ipureintro; exact fun _ => hwb'
      · iexact Hw
    isplitl [Hn Hs Hi1 Hi2 Hfn]
    · isplitl [Hn Hs]
      · isplitl [Hn]
        · iexact Hn
        iexact Hs
      isplitl [Hi1]
      · iexact Hi1
      isplitl [Hi2]
      · iexact Hi2
      iexact Hfn
    isplitl [HA]
    · iexact HA
    isplitl [HB]
    · iexact HB
    isplitl [HR1]
    · iexact HR1
    isplitl [HR2]
    · iexact HR2
    iexact Ho
  · iexact HW

set_option maxHeartbeats 1000000 in
/-- The points that refill a slot and start a copy in. -/
theorem step_mid (h1 : 3 ≤ t.val) (h3 : t.val < 30) : StepOk c V x0 x1 t arg2 harg2 arg3 harg3 := by
  have hN : t.val < 32 := lt_of_lt_of_eq t.isLt (show cfg0.N = 32 from N_0)
  have c0 : ¬isFirst (grid0.coords t) := by rw [isFirst_iff]; omega
  have c1 : issues (grid0.coords t) := by rw [issues_iff]; omega
  have c2 : refills (grid0.coords t) := by rw [refills_iff]; omega
  have c3 : ¬isLast (grid0.coords t) := by rw [isLast_iff]; omega
  intro W K
  unfold heldAt weightsAt readsAt
  rw [if_neg (show ¬t.val = 0 by omega), if_neg (show ¬t.val + 1 = 0 by omega), Ring.At3_here _ _ _ _ t.val (by omega), Ring.At3_next _ _ _ _ t.val (by omega),
    Ring.slotAt3_next0 _ _ _ t.val (by omega), Ring.slotAt3_next1 _ _ _ t.val (by omega),
    writes_open c V x0 x1 t.val hN, role_here c V x0 x1 t.val (by omega), writes_next c V x0 x1 t.val (by omega) (by omega)]
  unfold outAhead
  conv_lhs => unfold outInfl
  iintro ⟨H0, H1, ⟨⟨%wb, %hwb, Hw⟩, ⟨⟨Hs2, Hs⟩, Hi0, Hi1, Hf2⟩, ⟨⟨Hp, HA⟩, HB, ⟨%fo, %fe, %hfo, HF⟩, HR1, HR2⟩⟩, HW, Hk⟩
  have hwb' : Holds c x0 wb := hwb (by omega)
  iapply (runMid c t arg2 harg2 arg3 harg3 c0 c1 c2 c3 x0 x1 V wb fo fe W K)
  isplitl [H0]
  · iexact H0
  isplitl [H1]
  · iexact H1
  isplitl [Hw]
  · iexact Hw
  isplitl [Hi0]
  · iexact Hi0
  isplitl [Hs2]
  · iexact Hs2
  isplitl [Hf2]
  · iexact Hf2
  isplitl [Hp]
  · iexact Hp
  isplitl [HF]
  · iexact HF
  isplitl [HW]
  · iexact HW
  iintro ⟨H0, H1, Hw, Hn, Hfn, Hi2, Hb, Ho, HW⟩
  ihave Ho := (infl_of c V x0 x1 _ _ wb hwb') $$ [Ho]
  · iexact Ho
  ihave Hb := (behind_of c V x0 x1 _ fo hfo) $$ [Hb]
  · iexact Hb
  iapply Hk
  isplitl [H0]
  · iexact H0
  isplitl [H1]
  · iexact H1
  isplitr [HW]
  · isplitl [Hw]
    · iexists wb; isplitr
      · ipureintro; exact fun _ => hwb'
      · iexact Hw
    isplitl [Hn Hs Hi1 Hi2 Hfn]
    · isplitl [Hn Hs]
      · isplitl [Hn]
        · iexact Hn
        iexact Hs
      isplitl [Hi1]
      · iexact Hi1
      isplitl [Hi2]
      · iexact Hi2
      iexact Hfn
    isplitl [HA]
    · iexact HA
    isplitl [Hb HB]
    · isplitl [Hb]
      · iexact Hb
      iexact HB
    isplitl [HR1]
    · iexact HR1
    isplitl [HR2]
    · iexact HR2
    unfold outInfl
    iexact Ho
  · iexact HW

set_option maxHeartbeats 1000000 in
/-- The last point but one. -/
theorem step_late (h1 : t.val = 30) : StepOk c V x0 x1 t arg2 harg2 arg3 harg3 := by
  have hN : t.val < 32 := lt_of_lt_of_eq t.isLt (show cfg0.N = 32 from N_0)
  have c0 : ¬isFirst (grid0.coords t) := by rw [isFirst_iff]; omega
  have c1 : ¬issues (grid0.coords t) := by rw [issues_iff]; omega
  have c2 : refills (grid0.coords t) := by rw [refills_iff]; omega
  have c3 : ¬isLast (grid0.coords t) := by rw [isLast_iff]; omega
  intro W K
  unfold heldAt weightsAt readsAt
  rw [if_neg (show ¬t.val = 0 by omega), if_neg (show ¬t.val + 1 = 0 by omega), Ring.At3_here_tail _ _ _ _ t.val (by omega), Ring.At3_next_tail _ _ _ _ t.val (by omega) (by omega),
    Ring.slotAt3_tail_role _ _ _ t.val,
    writes_open c V x0 x1 t.val hN, role_here c V x0 x1 t.val (by omega), writes_next c V x0 x1 t.val (by omega) (by omega)]
  unfold outAhead
  conv_lhs => unfold outInfl
  iintro ⟨H0, H1, ⟨⟨%wb, %hwb, Hw⟩, ⟨Hs, Hi0, Hi1, Hf2⟩, ⟨⟨Hp, HA⟩, HB, ⟨%fo, %fe, %hfo, HF⟩, HR1, HR2⟩⟩, HW, Hk⟩
  have hwb' : Holds c x0 wb := hwb (by omega)
  iapply (runLate c t arg2 harg2 arg3 harg3 c0 c1 c2 c3 x0 x1 V wb fo fe W K)
  isplitl [H0]
  · iexact H0
  isplitl [H1]
  · iexact H1
  isplitl [Hw]
  · iexact Hw
  isplitl [Hi0]
  · iexact Hi0
  isplitl [Hp]
  · iexact Hp
  isplitl [HF]
  · iexact HF
  isplitl [HW]
  · iexact HW
  iintro ⟨H0, H1, Hw, Hn, Hfn, Hb, Ho, HW⟩
  ihave Ho := (infl_of c V x0 x1 _ _ wb hwb') $$ [Ho]
  · iexact Ho
  ihave Hb := (behind_of c V x0 x1 _ fo hfo) $$ [Hb]
  · iexact Hb
  iapply Hk
  isplitl [H0]
  · iexact H0
  isplitl [H1]
  · iexact H1
  isplitr [HW]
  · isplitl [Hw]
    · iexists wb; isplitr
      · ipureintro; exact fun _ => hwb'
      · iexact Hw
    isplitl [Hn Hs Hi1 Hf2 Hfn]
    · isplitl [Hn Hs]
      · isplitl [Hn]
        · iexact Hn
        iexact Hs
      isplitl [Hi1]
      · iexact Hi1
      isplitl [Hf2]
      · iexact Hf2
      iexact Hfn
    isplitl [HA]
    · iexact HA
    isplitl [Hb HB]
    · isplitl [Hb]
      · iexact Hb
      iexact HB
    isplitl [HR1]
    · iexact HR1
    isplitl [HR2]
    · iexact HR2
    unfold outInfl
    iexact Ho
  · iexact HW

set_option maxHeartbeats 1000000 in
/-- The last point. -/
theorem step_last (h1 : t.val = 31) : StepOk c V x0 x1 t arg2 harg2 arg3 harg3 := by
  have hN : t.val < 32 := lt_of_lt_of_eq t.isLt (show cfg0.N = 32 from N_0)
  have c0 : ¬isFirst (grid0.coords t) := by rw [isFirst_iff]; omega
  have c1 : ¬issues (grid0.coords t) := by rw [issues_iff]; omega
  have c2 : refills (grid0.coords t) := by rw [refills_iff]; omega
  have c3 : isLast (grid0.coords t) := by rw [isLast_iff]; omega
  intro W K
  unfold heldAt weightsAt readsAt
  rw [if_neg (show ¬t.val = 0 by omega), if_neg (show ¬t.val + 1 = 0 by omega), Ring.At3_here_tail _ _ _ _ t.val (by omega), Ring.At3_next_tail _ _ _ _ t.val (by omega) (by omega),
    Ring.slotAt3_tail_role _ _ _ t.val,
    writes_open c V x0 x1 t.val hN, role_here c V x0 x1 t.val (by omega), role_one c V x0 x1 t.val (by omega), role_two c V x0 x1 t.val (by omega),
    writes_last c V x0 x1 t.val (by omega)]
  unfold outAhead outFree outInfl
  iintro ⟨H0, H1, ⟨⟨%wb, %hwb, Hw⟩, ⟨Hs, Hi0, Hi1, Hf2⟩, ⟨⟨Hp, -⟩, HB, ⟨%fo, %fe, %hfo, HF⟩, ⟨%f1, %e1, %hf1, HF1⟩, ⟨%f2, %e2, %hf2, HF2⟩⟩⟩, HW, Hk⟩
  have hwb' : Holds c x0 wb := hwb (by omega)
  iapply (runLast c t arg2 harg2 arg3 harg3 c0 c1 c2 c3 x0 x1 V wb fo fe f1 e1 f2 e2 W K)
  isplitl [H0]
  · iexact H0
  isplitl [H1]
  · iexact H1
  isplitl [Hw]
  · iexact Hw
  isplitl [Hi0]
  · iexact Hi0
  isplitl [Hp]
  · iexact Hp
  isplitl [HF]
  · iexact HF
  isplitl [HF1]
  · iexact HF1
  isplitl [HF2]
  · iexact HF2
  isplitl [HW]
  · iexact HW
  iintro ⟨H0, H1, Hw, Hn, Hfn, Hb, Hb1, Hb2, ⟨%fl, %hfl, Hbl⟩, Hfree, HW⟩
  ihave Hb := (behind_of c V x0 x1 _ fo hfo) $$ [Hb]
  · iexact Hb
  ihave Hb1 := (behind_of c V x0 x1 _ f1 hf1) $$ [Hb1]
  · iexact Hb1
  ihave Hb2 := (behind_of c V x0 x1 _ f2 hf2) $$ [Hb2]
  · iexact Hb2
  ihave Hbl := (behind_of c V x0 x1 (Ring.bk 32 t.val) fl ⟨wb, hwb', hfl⟩) $$ [Hbl]
  · iexact Hbl
  iapply Hk
  isplitl [H0]
  · iexact H0
  isplitl [H1]
  · iexact H1
  isplitr [HW]
  · isplitl [Hw]
    · iexists wb; isplitr
      · ipureintro; exact fun _ => hwb'
      · iexact Hw
    isplitl [Hn Hs Hi1 Hf2 Hfn]
    · isplitl [Hn Hs]
      · isplitl [Hn]
        · iexact Hn
        iexact Hs
      isplitl [Hi1]
      · iexact Hi1
      isplitl [Hf2]
      · iexact Hf2
      iexact Hfn
    isplitr [Hfree]
    · isplitl [Hb]
      · iexact Hb
      isplitl [Hb1]
      · iexact Hb1
      isplitl [Hb2]
      · iexact Hb2
      isplitl [Hbl]
      · iexact Hbl
      iexact HB
    iexact Hfree
  · iexact HW

/-- Every point. -/
theorem step : StepOk c V x0 x1 t arg2 harg2 arg3 harg3 := by
  have hN : t.val < 32 := lt_of_lt_of_eq t.isLt (show cfg0.N = 32 from N_0)
  rcases (show t.val = 0 ∨ (1 ≤ t.val ∧ t.val < 3) ∨ (3 ≤ t.val ∧ t.val < 30) ∨ t.val = 30 ∨ t.val = 31 by omega) with h | h | h | h | h
  · exact step_first c V x0 x1 t arg2 harg2 arg3 harg3 h
  · exact step_early c V x0 x1 t arg2 harg2 arg3 harg3 h.1 h.2
  · exact step_mid c V x0 x1 t arg2 harg2 arg3 harg3 h.1 h.2
  · exact step_late c V x0 x1 t arg2 harg2 arg3 harg3 h
  · exact step_last c V x0 x1 t arg2 harg2 arg3 harg3 h

end Steps

end Cert.KernelIdeal.Gen

end
-- ==== Proof.Ends.lean ====
/- What the kernel holds before its first point and after its last: its buffers cut into the slots, halves, tiles and pieces
   it moves, and put together again. -/
module

public import proofs.«01_k».proof.Proof.Rings

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Elements by their coordinates -/

theorem src_set (b : Fin 32) (h : Fin 2) : (src b h).view.set = (Rect.unit (s := S361x32x1024) ![0, b.val, 512 * h.val] S361x1x512.size (inb_src b h)).set := by
  simp only [src, Memref.view_squeeze, View.set_reshape]; exact View.set_slice_whole _ _
theorem tile_set (s : Fin 3) : (tile s).view.set = (Rect.unit (s := S3x85x1083) ![s.val, 0, 0] S1x85x1083.size (inb_tile s)).set := by
  simp only [tile, Memref.view_squeeze, View.set_reshape]; exact View.set_slice_whole _ _
theorem piece_set (u : Fin 32) : (piece u).view.set = (Rect.unit (s := S85x32x1083) ![0, u.val, 0] S85x1x1083.size (inb_piece u)).set := by
  simp only [piece, Memref.view_squeeze, View.set_reshape]; exact View.set_slice_whole _ _

/-- The elements of a half of an input block, -/
theorem mem_src (b : Fin 32) (h : Fin 2) (i : S361x32x1024.Idx) : i ∈ (src b h).view.set ↔
    (0 ≤ (i 0).val ∧ (i 0).val < 0 + 361) ∧ (b.val ≤ (i 1).val ∧ (i 1).val < b.val + 1) ∧ (512 * h.val ≤ (i 2).val ∧ (i 2).val < 512 * h.val + 512) := by
  rw [src_set]
  refine Rect.mem_set_unit.trans ?_
  simp only [Fin.forall_fin_succ, IsEmpty.forall_iff, and_true]
  exact Iff.rfl
/-- of a tile, -/
theorem mem_tile (s : Fin 3) (i : S3x85x1083.Idx) : i ∈ (tile s).view.set ↔
    (s.val ≤ (i 0).val ∧ (i 0).val < s.val + 1) ∧ (0 ≤ (i 1).val ∧ (i 1).val < 0 + 85) ∧ (0 ≤ (i 2).val ∧ (i 2).val < 0 + 1083) := by
  rw [tile_set]
  refine Rect.mem_set_unit.trans ?_
  simp only [Fin.forall_fin_succ, IsEmpty.forall_iff, and_true]
  exact Iff.rfl
/-- and of a piece of the output. -/
theorem mem_piece (u : Fin 32) (i : S85x32x1083.Idx) : i ∈ (piece u).view.set ↔
    (0 ≤ (i 0).val ∧ (i 0).val < 0 + 85) ∧ (u.val ≤ (i 1).val ∧ (i 1).val < u.val + 1) ∧ (0 ≤ (i 2).val ∧ (i 2).val < 0 + 1083) := by
  rw [piece_set]
  refine Rect.mem_set_unit.trans ?_
  simp only [Fin.forall_fin_succ, IsEmpty.forall_iff, and_true]
  exact Iff.rfl

/-- Slots do not meet, and cover the input scratch; -/
theorem slots_disjoint (s s' : Fin 3) (n : s ≠ s') : Disjoint (slot s).view.set (slot s').view.set :=
  Finset.disjoint_left.2 fun i h h' => by
    have a := ((mem_slot s i).1 h).1; have b := ((mem_slot s' i).1 h').1
    exact n (Fin.ext (by omega))
theorem slots_cover : Finset.univ.biUnion (fun s : Fin 3 => (slot s).view.set) = (Finset.univ : Finset S3x361x1024.Idx) :=
  Finset.eq_univ_iff_forall.2 fun i => Finset.mem_biUnion.2 ⟨i 0, Finset.mem_univ _, (mem_slot (i 0) i).2 (by
    have b1 : (i 1).val < 361 := (i 1).isLt; have b2 : (i 2).val < 1024 := (i 2).isLt; omega)⟩
/-- so do the tiles, the output scratch; -/
theorem tiles_disjoint (s s' : Fin 3) (n : s ≠ s') : Disjoint (tile s).view.set (tile s').view.set :=
  Finset.disjoint_left.2 fun i h h' => by
    have a := ((mem_tile s i).1 h).1; have b := ((mem_tile s' i).1 h').1
    exact n (Fin.ext (by omega))
theorem tiles_cover : Finset.univ.biUnion (fun s : Fin 3 => (tile s).view.set) = (Finset.univ : Finset S3x85x1083.Idx) :=
  Finset.eq_univ_iff_forall.2 fun i => Finset.mem_biUnion.2 ⟨i 0, Finset.mem_univ _, (mem_tile (i 0) i).2 (by
    have b1 : (i 1).val < 85 := (i 1).isLt; have b2 : (i 2).val < 1083 := (i 2).isLt; omega)⟩
/-- the pieces, the output; -/
theorem pieces_disjoint (u u' : Fin 32) (n : u ≠ u') : Disjoint (piece u).view.set (piece u').view.set :=
  Finset.disjoint_left.2 fun i h h' => by
    have a := ((mem_piece u i).1 h).2.1; have b := ((mem_piece u' i).1 h').2.1
    exact n (Fin.ext (by omega))
theorem pieces_cover : Finset.univ.biUnion (fun u : Fin 32 => (piece u).view.set) = (Finset.univ : Finset S85x32x1083.Idx) :=
  Finset.eq_univ_iff_forall.2 fun i => Finset.mem_biUnion.2 ⟨i 1, Finset.mem_univ _, (mem_piece (i 1) i).2 (by
    have b1 : (i 0).val < 85 := (i 0).isLt; have b2 : (i 2).val < 1083 := (i 2).isLt; omega)⟩
/-- and the blocks, each in two halves, the input. -/
theorem src_disjoint (b : Fin 32) : Disjoint (src b 0).view.set (src b 1).view.set :=
  Finset.disjoint_left.2 fun i h h' => by
    have a := ((mem_src b 0 i).1 h).2.2.2; have b := ((mem_src b 1 i).1 h').2.2.1
    exact absurd (Nat.lt_of_le_of_lt b a) (by decide)
theorem srcs_disjoint (b b' : Fin 32) (n : b ≠ b') :
    Disjoint ((src b 0).view.set ∪ (src b 1).view.set) ((src b' 0).view.set ∪ (src b' 1).view.set) :=
  Finset.disjoint_left.2 fun i h h' => by
    have a := (Finset.mem_union.1 h).elim (fun k => ((mem_src b 0 i).1 k).2.1) (fun k => ((mem_src b 1 i).1 k).2.1)
    have a' := (Finset.mem_union.1 h').elim (fun k => ((mem_src b' 0 i).1 k).2.1) (fun k => ((mem_src b' 1 i).1 k).2.1)
    exact n (Fin.ext (by omega))
theorem srcs_cover : Finset.univ.biUnion (fun b : Fin 32 => (src b 0).view.set ∪ (src b 1).view.set) = (Finset.univ : Finset S361x32x1024.Idx) :=
  Finset.eq_univ_iff_forall.2 fun i => Finset.mem_biUnion.2 ⟨i 1, Finset.mem_univ _, Finset.mem_union.2 (by
    have b0 : (i 0).val < 361 := (i 0).isLt
    have b2 : (i 2).val < 1024 := (i 2).isLt
    have e0 : ((0 : Fin 2).val) = 0 := rfl
    have e1 : ((1 : Fin 2).val) = 1 := rfl
    refine (or_congr (mem_src (i 1) 0 i) (mem_src (i 1) 1 i)).2 ?_
    rw [e0, e1]
    omega)⟩

/-! ## Cutting and joining the buffers -/

section Ends
/-- A star of assertions entails a star of what they entail. -/
theorem stars_mono {I : Type} {s : Finset I} {Φ Ψ : I → sProp 𝕄} (h : ∀ i ∈ s, Φ i ⊢ Ψ i) : bigSep s Φ ⊢ bigSep s Ψ := BI.bigSep_mono h

variable (c : Dev nD) (V : BufOf (F := F) c inM) (x0 : Vec F S2040x128 .f32) (x1 : Vec F S384x1 .f32)

/-- The input is its blocks. -/
theorem input_blocks : (wholeAt c inM V : sProp 𝕄) = bigSep Finset.univ (srcs c V) := by
  refine (Ring.pointsTo_blocks (ℓ := inM.view.loc (c : Thread nD τ)) (q := fullShare) (fun b : Fin 32 => (src b 0).view.set ∪ (src b 1).view.set) srcs_disjoint srcs_cover V).trans ?_
  exact congrArg _ (funext fun b => BI.equiv_iff.mp (have e := pointsTo_union (ℓ := inM.view.loc (c : Thread nD τ)) (I := (src b 0).view.set) (J := (src b 1).view.set) (q := fullShare) (f := V) (src_disjoint b); ⟨e.1, e.2⟩))

/-- The input scratch is three slots of two halves, -/
theorem slots_in : (iprop(∃ f, wholeAt c xM f) : sProp 𝕄) ⊢ bigSep Finset.univ (fun s => iprop(∃ f, slots c s f)) :=
  (Ring.pieces_split (ℓ := xM.view.loc (c : Thread nD τ)) (q := fullShare) (fun s : Fin 3 => (slot s).view.set) slots_disjoint slots_cover (slotP c) (fun _ _ => rfl)).trans
    (stars_mono fun s _ => by
      iintro ⟨%f, H⟩
      ihave H2 := (slot_halves c s f).1 $$ H
      iexists (f, f)
      iexact H2)
/-- the two halves of a slot, at contents of their own, are the slot at some contents, -/
theorem slot_join (s : Fin 3) (f : BufOf (F := F) c (half s 0) × BufOf (F := F) c (half s 1)) : slots c s f ⊢ (iprop(∃ g, slotP c s g) : sProp 𝕄) := by
  have h : slots c s f ⊢ (xM.view.loc (c : Thread nD τ) ↦[(slot s).view.set]{fullShare} ((half s 1).view.set.piecewise f.2 f.1 : BufOf (F := F) c xM) : sProp 𝕄) := by
    rw [← halves_union s]
    exact pointsTo_join (ℓ := xM.view.loc (c : Thread nD τ)) (q := fullShare) (f := f.1) (g := f.2) (halves_disjoint s)
  refine h.trans ?_
  iintro H; iexists _; iexact H
/-- which are put together again; -/
theorem slots_out (f₀ : BufOf (F := F) c xM) : bigSep Finset.univ (fun s => iprop(∃ f, slots c s f)) ⊢ (iprop(∃ f, wholeAt c xM f) : sProp 𝕄) :=
  (stars_mono (Ψ := fun s => iprop(∃ f, slotP c s f)) fun s _ => by
      iintro ⟨%f, H⟩; iapply (slot_join c s f); iexact H).trans
    (Ring.pieces_join (ℓ := xM.view.loc (c : Thread nD τ)) (q := fullShare) (fun s : Fin 3 => (slot s).view.set) slots_disjoint slots_cover (slotP c) (fun _ _ => rfl) f₀)
/-- the output scratch is three tiles, -/
theorem tiles_in : (iprop(∃ f, wholeAt c oM f) : sProp 𝕄) ⊢ bigSep Finset.univ (fun s => iprop(∃ f, tileP c s f)) :=
  Ring.pieces_split (ℓ := oM.view.loc (c : Thread nD τ)) (q := fullShare) (fun s : Fin 3 => (tile s).view.set) tiles_disjoint tiles_cover (tileP c) (fun _ _ => rfl)
theorem tiles_out (f₀ : BufOf (F := F) c oM) : bigSep Finset.univ (fun s => iprop(∃ f, tileP c s f)) ⊢ (iprop(∃ f, wholeAt c oM f) : sProp 𝕄) :=
  Ring.pieces_join (ℓ := oM.view.loc (c : Thread nD τ)) (q := fullShare) (fun s : Fin 3 => (tile s).view.set) tiles_disjoint tiles_cover (tileP c) (fun _ _ => rfl) f₀
/-- and the output is its pieces. -/
theorem pieces_in : (iprop(∃ f, wholeAt c outM f) : sProp 𝕄) ⊢ bigSep Finset.univ (outAhead c) :=
  Ring.pieces_split (ℓ := outM.view.loc (c : Thread nD τ)) (q := fullShare) (fun u : Fin 32 => (piece u).view.set) pieces_disjoint pieces_cover (pieceP c) (fun _ _ => rfl)

/-- The pieces written are the output whole at some contents; -/
theorem pieces_out (f₀ : BufOf (F := F) c outM) : bigSep Finset.univ (outBehind c V x0 x1) ⊢ (iprop(∃ f, wholeAt c outM f) : sProp 𝕄) :=
  (stars_mono fun u _ => by unfold outBehind; iintro ⟨%f, -, H⟩; iexists f; iexact H).trans
    (Ring.pieces_join (ℓ := outM.view.loc (c : Thread nD τ)) (q := fullShare) (fun u : Fin 32 => (piece u).view.set) pieces_disjoint pieces_cover (pieceP c) (fun _ _ => rfl) f₀)
/-- and where the results determine the elements of every piece, at these. -/
theorem pieces_out_at (G : BufOf (F := F) c outM)
    (hG : ∀ (u : Fin 32) (f : BufOf (F := F) c (piece u)), Good c V x0 x1 u f → ∀ i ∈ (piece u).view.set, (f : BufOf (F := F) c outM) i = G i) :
    bigSep Finset.univ (outBehind c V x0 x1) ⊢ (wholeAt c outM G : sProp 𝕄) := by
  refine BIBase.Entails.trans ?_ (Entails.of_eq (Ring.pointsTo_blocks (ℓ := outM.view.loc (c : Thread nD τ)) (q := fullShare) (fun u : Fin 32 => (piece u).view.set) pieces_disjoint pieces_cover G).symm)
  refine stars_mono fun u _ => ?_
  unfold outBehind
  iintro ⟨%f, %hf, H⟩
  iapply (Entails.of_eq (pointsTo_congr (q := fullShare) (hG u f hf)))
  iexact H

/-- The kernel's semaphores at zero. -/
def semsZero : sProp 𝕄 :=
  iprop(semVal ((c : Thread nD τ), SemLoc.dma 2) 0 ∗ semVal ((c : Thread nD τ), SemLoc.dma 3) 0 ∗ semVal ((c : Thread nD τ), SemLoc.dma 4) 0
    ∗ semVal ((c : Thread nD τ), SemLoc.dma 5) 0 ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0 ∗ semVal ((c : Thread nD τ), SemLoc.dma 10) 0)
theorem sems_eq : (semsZero c : sProp 𝕄)
    = iprop(cellP c 0 0 ∗ cellP c 0 1 ∗ cellP c 1 0 ∗ cellP c 1 1 ∗ cellP c 2 0 ∗ cellP c 2 1 ∗ wcellP c 0 ∗ wcellP c 1 ∗ wcellP c 2) := by
  unfold semsZero
  have d (s h) := cellL_eq s h
  have e (s) := wcellL_eq s
  simp only [cellP, wcellP, d, e]
  rfl

/-- BEFORE THE FIRST POINT: the scratch buffers and the output at any contents, the semaphores at zero and the input are what the kernel
    keeps before point 0. -/
theorem held_in : iprop(((∃ f, wholeAt c xM f) ∗ (∃ f, wholeAt c oM f) ∗ (∃ f, wholeAt c wM f)) ∗ semsZero c ∗ wholeAt c inM V ∗ ∃ f, wholeAt c outM f)
    ⊢ (heldAt c V x0 x1 0 : sProp 𝕄) := by
  unfold heldAt weightsAt readsAt writesAt
  rw [if_pos rfl, Ring.AtBΦ_lt _ _ _ _ _ 0 (by decide), Ring.AtB_zero, sems_eq, input_blocks]
  unfold Ring.At₀ Ring.AtB₀
  rw [Ring.bigSep_fin3, Ring.bigSep_fin3]
  unfold outFree Ring.free
  iintro ⟨⟨Hx, Ho, ⟨%wb, Hw⟩⟩, ⟨H2, H3, H4, H5, H6, H7, H8, H9, H10⟩, Hi, Hr⟩
  ihave Hx := ((slots_in c).trans (Entails.of_eq (Ring.bigSep_fin3 _))) $$ Hx
  ihave Ho := ((tiles_in c).trans (Entails.of_eq (Ring.bigSep_fin3 _))) $$ Ho
  ihave Hr := (pieces_in c) $$ Hr
  icases Hx with ⟨Hx0, Hx1, Hx2⟩
  icases Ho with ⟨Ho0, Ho1, Ho2⟩
  isplitl [Hw]
  · iexists wb
    isplitr; · ipureintro; exact fun h => absurd rfl h
    iexact Hw
  isplitl [Hi Hx0 Hx1 Hx2 H2 H3 H4 H5 H6 H7]
  · isplitl [Hi]; · iexact Hi
    isplitl [Hx0 H2 H3]
    · isplitl [H2 H3]
      · isplitl [H2]; · iexact H2
        iexact H3
      iexact Hx0
    isplitl [Hx1 H4 H5]
    · isplitl [H4 H5]
      · isplitl [H4]; · iexact H4
        iexact H5
      iexact Hx1
    isplitl [H6 H7]
    · isplitl [H6]; · iexact H6
      iexact H7
    iexact Hx2
  isplitl [Hr]; · iexact Hr
  isplitl [H8 Ho0]
  · isplitl [H8]; · iexact H8
    iexact Ho0
  isplitl [H9 Ho1]
  · isplitl [H9]; · iexact H9
    iexact Ho1
  isplitl [H10]; · iexact H10
  iexact Ho2

/-- AFTER THE LAST: what the kernel keeps is those buffers again, the output's pieces holding the results. -/
theorem held_out : heldAt c V x0 x1 32
    ⊢ (iprop(((∃ f, wholeAt c xM f) ∗ (∃ f, wholeAt c oM f) ∗ (∃ f, wholeAt c wM f)) ∗ semsZero c ∗ wholeAt c inM V ∗ bigSep Finset.univ (outBehind c V x0 x1)) : sProp 𝕄) := by
  unfold heldAt weightsAt readsAt writesAt
  rw [if_neg (by decide), Ring.AtBΦ_end _ _ _ _ _ 32 rfl, sems_eq, input_blocks]
  unfold Ring.AtBEnd
  rw [Ring.bigSep_fin3]
  unfold outFree
  iintro ⟨⟨%wb, -, Hw⟩, Hin, Hr, ⟨H8, Ho0⟩, ⟨H9, Ho1⟩, H10, Ho2⟩
  ihave Hin := (Ring.free3_of_At_last _ _ _ _) $$ Hin
  unfold Ring.free
  icases Hin with ⟨Hi, ⟨⟨H2, H3⟩, Hx0⟩, ⟨⟨H4, H5⟩, Hx1⟩, ⟨H6, H7⟩, Hx2⟩
  icases Hx0 with ⟨%f₀, Hx0⟩
  icases Ho0 with ⟨%e₀, Ho0⟩
  ihave Hx := ((Entails.of_eq (Ring.bigSep_fin3 (fun s => iprop(∃ f, slots c s f))).symm).trans (slots_out c f₀.1)) $$ [Hx0 Hx1 Hx2]
  · isplitl [Hx0]; · iexists f₀; iexact Hx0
    isplitl [Hx1]; · iexact Hx1
    iexact Hx2
  ihave Ho := ((Entails.of_eq (Ring.bigSep_fin3 (fun s => iprop(∃ f, tileP c s f))).symm).trans (tiles_out c e₀)) $$ [Ho0 Ho1 Ho2]
  · isplitl [Ho0]; · iexists e₀; iexact Ho0
    isplitl [Ho1]; · iexact Ho1
    iexact Ho2
  isplitl [Hx Ho Hw]
  · isplitl [Hx]; · iexact Hx
    isplitl [Ho]; · iexact Ho
    iexists wb; iexact Hw
  isplitl [H2 H3 H4 H5 H6 H7 H8 H9 H10]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hi]; · iexact Hi
  iexact Hr

end Ends

end Cert.KernelIdeal.Gen

end
-- ==== Proof.Launch.lean ====
/- The launch: the pipeline's proof data, the body's obligation at every point, and the runs — one that leaves the arguments
   unchanged and every semaphore at zero, one that also says what the kernel writes. -/
module

public import proofs.«01_k».proof.Proof.Steps
public import proofs.«01_k».proof.Proof.Ends
public import proofs.«01_k».proof.Proof.Gen.KernelIdeal.Frame
public import Idealize.ShloMosaic.Lib.Pipeline.FrameBody
public import Idealize.ShloMosaic.Lib.Pipeline.FrameSuffix
public import Idealize.ShloMosaic.Lib.Pipeline.FrameSuffixV

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program around the pipelined region: the host lines before it, the region, the host line after it. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- An input window holds its block at every point. -/
theorem before_block {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_bias {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The first point. -/
abbrev first : Fin cfg0.N := ⟨0, by show 0 < grid0.N; rw [N_0]; decide⟩
/-- The staged weights and biases: the same at every point. -/
abbrev wArr (c : Dev nD) : Vec F S2040x128 .f32 := iblk m c 0 first
abbrev bArr (c : Dev nD) : Vec F S384x1 .f32 := iblk m c 1 first
theorem wArr_eq (c : Dev nD) (t : Fin cfg0.N) : iblk m c 0 t = wArr m c := rfl
theorem bArr_eq (c : Dev nD) (t : Fin cfg0.N) : iblk m c 1 t = bArr m c := rfl

section Data
variable (P : Dev nD → sProp (MT nD τ sig Unit (Elt F) ℕ (Pipeline.UD sig nD τ) ℕ))

/-- What is kept before point `k`, beside `P`. -/
def keep (c : Dev nD) (k : ℕ) : sProp 𝕄 := iprop(P c ∗ heldAt c (V m c main_v1) (wArr m c) (bArr m c) k)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := keep m P c t.val
  q _ := fullShare
  owed _ := 0

theorem A_eq (c : Dev nD) (w : Fin cfg0.W) : (dats m P 0 c).A w = V m c (Pipeline.arrRef spec0 w) := by
  dsimp only [dats]
theorem keep_castSucc (c : Dev nD) (t : Fin cfg0.N) : (dats m P 0 c).Φ t.castSucc = keep m P c t.val := by
  dsimp only [dats]; simp only [Fin.val_castSucc]
theorem keep_succ (c : Dev nD) (t : Fin cfg0.N) : (dats m P 0 c).Φ t.succ = keep m P c (t.val + 1) := by
  dsimp only [dats]; simp only [Fin.val_succ]
theorem after_block (c : Dev nD) (t : Fin cfg0.N) : (dats m P 0 c).after 0 t = iblk m c 0 t := by dsimp only [dats]
theorem after_bias (c : Dev nD) (t : Fin cfg0.N) : (dats m P 0 c).after 1 t = iblk m c 1 t := by dsimp only [dats]

/-- What the body is called with at a point, -/
def bodyPre (c : Dev nD) (t : Fin cfg0.N) : sProp 𝕄 :=
  iprop((dats m P 0 c).Φ t.castSucc ∗ (dats m P 0 c).owesAt () t.castSucc
    ∗ (∃ d, owns (c : Thread nD τ) (msW t) fullShare ((dats m P 0 c).before 0 t d))
    ∗ (∃ d, owns (c : Thread nD τ) (msB t) fullShare ((dats m P 0 c).before 1 t d)))
/-- and what it returns. -/
def bodyPost (c : Dev nD) (t : Fin cfg0.N) : sProp 𝕄 :=
  iprop((dats m P 0 c).Φ t.succ ∗ (dats m P 0 c).owesAt () t.succ
    ∗ owns (c : Thread nD τ) (msW t) fullShare ((dats m P 0 c).after 0 t)
    ∗ owns (c : Thread nD τ) (msB t) fullShare ((dats m P 0 c).after 1 t))

/-- The body at any point. -/
theorem sound_body (c : Dev nD) (t : Fin cfg0.N) :
    bodyPre m P c t ⊢ wp frame (wpE (defs₀ (F := F)) Variants.none c none) Set.univ (bodyAt t (msW t) (hsW t) (msB t) (hsB t)) (fun _ => bodyPost m P c t) := by
  unfold bodyPre bodyPost
  simp only [before_block m (dats m P 0 c) (A_eq m P c 0) (after_block m P c), before_bias m (dats m P 0 c) (A_eq m P c 1) (after_bias m P c)]
  rw [after_block, after_bias]
  rw [keep_castSucc m P c t, keep_succ m P c t, wArr_eq, bArr_eq]
  unfold Dat.owesAt Pipeline.owesWithin
  rw [show (dats m P 0 c).owed t.castSucc = 0 from rfl, show (dats m P 0 c).owed t.succ = 0 from rfl]
  unfold keep
  iintro ⟨⟨HP, Hh⟩, ⟨%W, -, HW⟩, ⟨%d0, H0⟩, ⟨%d1, H1⟩⟩
  iapply (step c (V m c main_v1) (wArr m c) (bArr m c) t (msW t) (hsW t) (msB t) (hsB t) W _)
  isplitl [H0]; · iexact H0
  isplitl [H1]; · iexact H1
  isplitl [Hh]; · iexact Hh
  isplitl [HW]; · iexact HW
  iintro ⟨H0, H1, Hh, ⟨%W', HW'⟩⟩
  isplitl [HP Hh]
  · isplitl [HP]; · iexact HP
    iexact Hh
  isplitl [HW']
  · iexists W'; isplitr; · ipureintro; exact fun _ _ => Or.inl trivial
    iexact HW'
  isplitl [H0]; · iexact H0
  iexact H1

theorem defs₀_row (t : Fin cfg0.N) :
    defs₀ (F := F) .tc cfg0.body (cfg0.bodyArgs t (cfg0.slots t)) = bodyAt t (msW t) (hsW t) (msB t) (hsB t) := by
  unfold defs₀; rw [Defs.onTc_tc]

/-- The pipeline's obligation on the body, at every point. -/
theorem body_obligation (c : Dev nD) : BodyObligation (dats (F := F) m P 0 c) (defs₀ (F := F)) Variants.none () Set.univ := fun t => by
  rw [bigSep_W0, bigSep_W0, defs₀_row]
  exact triple_restated (sound_body m P c t) rfl .rfl fun _ => .rfl

end Data

/-! ## What the launch hands the kernel -/

/-- The kernel's semaphores. -/
abbrev osem0 : Fin 9 → SemLoc sig := fun j => (![SemLoc.dma 2, SemLoc.dma 3, SemLoc.dma 4, SemLoc.dma 5, SemLoc.dma 6, SemLoc.dma 7, SemLoc.dma 8, SemLoc.dma 9, SemLoc.dma 10] : Fin 9 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄) = semsZero c := by
  rw [Pipeline.ownSems0_eq_of_list c osem0 [0, 1, 2, 3, 4, 5, 6, 7, 8] (by decide) (by decide)]; rfl
/-- The operand it reads, -/
def H0 : Finset (Ref sig .tc) := {main_v1}
theorem H0_sub : H0 ⊆ Pipeline.restRefs sig spec0 := by decide
/-- and the one it writes. -/
def R0 : Finset (Ref sig .tc) := {main_v6}
theorem R0_sub : R0 ⊆ Pipeline.restRefs sig spec0 \ H0 := by decide
theorem reads_list (c : Dev nD) :
    (bigSep H0 (fun b => ((c : Thread nD τ).loc b) ↦{fullShare} V m c b) : sProp 𝕄) = wholeAt c inM (V m c main_v1) := by
  rw [BI.bigSep_eq_bigSepL_of_eq [main_v1] (by decide) (by decide)]; rfl
theorem written_list (c : Dev nD) (G : (b : Ref sig .tc) → Buf (Elt F) ((c : Thread nD τ).loc b)) :
    (bigSep R0 (fun b => ((c : Thread nD τ).loc b) ↦{fullShare} G b) : sProp 𝕄) = wholeAt c outM (G main_v6) := by
  rw [BI.bigSep_eq_bigSepL_of_eq [main_v6] (by decide) (by decide)]; rfl
theorem owned_list (c : Dev nD) : (Pipeline.owned R0 c : sProp 𝕄) = iprop(∃ f, wholeAt c outM f) := by
  unfold Pipeline.owned; rw [BI.bigSep_eq_bigSepL_of_eq [main_v6] (by decide) (by decide)]; rfl
theorem scratch_list (c : Dev nD) :
    (Pipeline.scopedRest (Ix := Unit) (Name := ℕ) (U := Pipeline.UD sig nD τ) (Lvl := ℕ) (Val := Elt F) spec0 c : sProp 𝕄)
      = iprop((∃ f, wholeAt c xM f) ∗ (∃ f, wholeAt c oM f) ∗ (∃ f, wholeAt c wM f)) := scopedRest0_eq c

/-- All of it, the output at some contents and the generator register beside, -/
theorem handed (c : Dev nD) :
    (Pipeline.ΦDR osem0 spec0 H0 R0 (V m) c : sProp 𝕄)
      = iprop(((∃ f, wholeAt c xM f) ∗ (∃ f, wholeAt c oM f) ∗ (∃ f, wholeAt c wM f)) ∗ (∃ r, prngReg c r) ∗ semsZero c ∗ wholeAt c inM (V m c main_v1) ∗ ∃ f, wholeAt c outM f) := by
  rw [Pipeline.ΦDR_eq, scratch_list, ownSems0_list, reads_list, owned_list]
/-- and without it, the output at named contents. -/
theorem handedV (c : Dev nD) (G : (c : Dev nD) → (b : Ref sig .tc) → Buf (Elt F) ((c : Thread nD τ).loc b)) :
    (Pipeline.ΦDRV osem0 spec0 H0 R0 (V m) G c : sProp 𝕄)
      = iprop(((∃ f, wholeAt c xM f) ∗ (∃ f, wholeAt c oM f) ∗ (∃ f, wholeAt c wM f)) ∗ semsZero c ∗ wholeAt c inM (V m c main_v1) ∗ wholeAt c outM (G c main_v6)) := by
  unfold Pipeline.ΦDRV
  rw [scratch_list, ownSems0_list, reads_list, written_list]

/-- The generator register at some state. -/
abbrev reg (c : Dev nD) : sProp 𝕄 := iprop(∃ r, prngReg c r)

theorem hin (c : Dev nD) : Pipeline.ΦDR osem0 spec0 H0 R0 (V m) c ⊢ (dats m reg 0 c).Φ 0 := by
  rw [handed, show (dats m reg 0 c).Φ 0 = keep m reg c 0 from rfl]
  unfold keep
  iintro ⟨Hs, Hg, Hq, Hi, Ho⟩
  isplitl [Hg]; · iexact Hg
  iapply (held_in c (V m c main_v1) (wArr m c) (bArr m c))
  isplitl [Hs]; · iexact Hs
  isplitl [Hq]; · iexact Hq
  isplitl [Hi]; · iexact Hi
  iexact Ho
theorem hout (c : Dev nD) : (dats m reg 0 c).Φ (Fin.last cfg0.N) ⊢ Pipeline.ΦDR osem0 spec0 H0 R0 (V m) c := by
  rw [handed, show (dats m reg 0 c).Φ (Fin.last cfg0.N) = keep m reg c grid0.N from rfl]
  unfold keep
  rw [show grid0.N = 32 by rw [N_0]]
  iintro ⟨Hg, Hh⟩
  ihave Hh := (held_out c (V m c main_v1) (wArr m c) (bArr m c)) $$ Hh
  icases Hh with ⟨Hs, Hq, Hi, Ho⟩
  ihave Ho := (pieces_out c (V m c main_v1) (wArr m c) (bArr m c) (V m c main_v6)) $$ Ho
  isplitl [Hs]; · iexact Hs
  isplitl [Hg]; · iexact Hg
  isplitl [Hq]; · iexact Hq
  isplitl [Hi]; · iexact Hi
  iexact Ho

/-- What the host line after the region writes. -/
def T0 : Finset (Ref sig .tc) := {main_v7}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    intro b hb; simp only [StableHlo.unary_writes, Finset.mem_singleton] at hb; cases Proc.devRef_injective _ hb; decide

set_option backward.isDefEq.respectTransparency.types false in
set_option maxHeartbeats 800000 in
/-- THE RUN: every execution ends, with every array the kernel does not write as it was and every semaphore at zero. -/
theorem run_main_quiescent : θ_run defs (onTc (τ := τ) (main (F := F))) (s₀ m ρ) (fun r => (Pipeline.FramePostR cfgs (dats m reg) 0 (R0 ∪ T0) (V m)) r ∧ r.2.sem = fun _ => 0) :=
  Pipeline.θ_run_frame_dmaR_around (Q' := _) cfgs (dats m reg) (0 : Fin 1) launch0 osem0 defs₀ Variants.none ownSemFacts0 H0 R0 T0 H0_sub R0_sub m ρ main
    (hbody := fun c => (body_obligation m reg c).loose) (hshare := fun c => (dats m reg 0 c).share_full fun _ => rfl)
    (howed := fun _ _ => rfl) (V₀ := V0 m) (opss := [hostOps1]) (hsub := sfx_sub) (hfresh := sfx_fresh) (hkeep := sfx_keeps) (hT := sfx_writes)
    (hmain := around m Variants.none) (hA := A_eq m reg) (hin := hin m) (hout := hout m)

/-- THE FRAME: every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩) (run_main_quiescent m ρ)

end Cert.KernelIdeal.Gen

end
-- ==== Proof.KernelFrame.lean ====
/- The printed program's frame: it is, operation for operation, the program the other modules are about, here at the machine's
   numbers. -/
module

public import proofs.«01_k».proof.Proof.Launch
public import proofs.«01_k».proof.Proof.Gen.Kernel
public import proofs.«01_k».proof.Defs

@[expose] public section

set_option maxRecDepth 16384

noncomputable section

namespace Cert.Kernel.Gen

open Idealize.ShloMosaic Idealize.ShloMosaic.TcCoe Idealize.SL.Sem

/-- The two programs' tables of kernel bodies are the same, -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l with
  | ⟨0, _⟩ => rfl
/-- and so are their definitions. -/
theorem defs_same : Cert.Kernel.defs (F := Bits) = Cert.KernelIdeal.defs (F := Bits) :=
  congrArg (Pipeline.defs Cert.KernelIdeal.pcfgs) bodies_same

/-- Every execution of the printed program ends, its arguments unchanged and every semaphore at zero. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  defs_same ▸ Cert.KernelIdeal.Gen.frame (F := Bits) m ρ

end Cert.Kernel.Gen

end
-- ==== Proof.Head.lean ====
/- The function of one logit that every element of the result is. -/
module

public import Idealize.ShloMosaic.Lib.Pointwise

@[expose] public section

set_option maxRecDepth 16384

noncomputable section

namespace Cert.Head

open Idealize.ShloMosaic

/-- Thirty-two, the stride of the grid of cells. -/
abbrev stride : EReal := Ideal.ofBits .f32 0x42000000#32
/-- The anchors' widths, -/
abbrev anchorW (a : Fin 3) : EReal := Ideal.ofBits .f32 ((![0x42E80000#32, 0x431C0000#32, 0x43BA8000#32] : Fin 3 → BitVec 32) a)
/-- and heights. -/
abbrev anchorH (a : Fin 3) : EReal := Ideal.ofBits .f32 ((![0x42B40000#32, 0x43460000#32, 0x43A30000#32] : Fin 3 → BitVec 32) a)
/-- A column or row of the grid as a value. -/
abbrev cellAt (n : ℕ) : EReal := ((BitVec.ofNat 32 n).toInt : ℝ)

/-- Channel `r` of anchor `a` at cell `g`, from its logit `s`: the box's centre from the cell's column and row, its
    size from the anchor's, and the scores. -/
def head (a : Fin 3) (r : ℕ) (g : ℕ) (s : EReal) : EReal :=
  if r = 0 then (Ideal.logistic s + cellAt (g % 19)) * stride
  else if r = 1 then (Ideal.logistic s + cellAt (g / 19)) * stride
  else if r = 2 then Ideal.exp s * anchorW a
  else if r = 3 then Ideal.exp s * anchorH a
  else Ideal.logistic s

end Cert.Head

end
-- ==== Proof.Pure.lean ====
/- The kernel's arithmetic, element by element, in the extended reals. -/
module

public import proofs.«01_k».proof.Proof.Tile
public import proofs.«01_k».proof.Proof.Weights
public import proofs.«01_k».proof.Proof.Head
public import Idealize.ShloMosaic.Lib.Pointwise

@[expose] public section

set_option maxRecDepth 16384

noncomputable section

namespace Cert.KernelIdeal.Gen

open Idealize.ShloMosaic Idealize.ShloMosaic.TcCoe Idealize.SL.Sem
open Cert.Head

/-- The lane's remainder by nineteen, as the kernel computes it, -/
theorem col_word (r : Fin 85) (g : Fin 361) : k0_pay8 (ix2 r g) = BitVec.ofNat 32 (g.val % 19) := by
  pointwise [k0_pay8]
  revert g
  decide +kernel
theorem col_value (r : Fin 85) (g : Fin 361) : (FloatOps.sitofp FTy.f32 (k0_pay8 (ix2 r g)) : Ideal .f32) = cellAt (g.val % 19) := by
  rw [col_word]; rfl
/-- and its quotient, as a value. -/
theorem row_value (r : Fin 85) (g : Fin 361) : k0_pay7 (F := Ideal) (ix2 r g) = cellAt (g.val / 19) := by
  pointwise [k0_pay7]
  refine congrArg (fun w : BitVec 32 => ((w.toInt : ℝ) : EReal)) ?_
  revert g
  decide +kernel

/-- A selection by the row's number. -/
theorem select_row (n k : ℕ) (hn : n < 85) (hk : k < 4) (a b : EReal) :
    Scalar.select (IntOp.cmpi CmpIPredicate.eq (BitVec.ofNat 32 n) (BitVec.ofNat 32 k)) a b = if n = k then a else b := by
  have e : IntOp.cmpi CmpIPredicate.eq (BitVec.ofNat 32 n) (BitVec.ofNat 32 k) = if n = k then 1#1 else 0#1 := by
    by_cases h : n = k
    · rw [if_pos h, h]; simp [IntOp.cmpi]
    · rw [if_neg h]
      have : BitVec.ofNat 32 n ≠ BitVec.ofNat 32 k := fun e => h (by
        have := congrArg BitVec.toNat e
        simp only [BitVec.toNat_ofNat] at this
        omega)
      show BitVec.ofBool (BitVec.ofNat 32 n == BitVec.ofNat 32 k) = 0#1
      rw [beq_eq_false_iff_ne.mpr this]; rfl
  rw [e]
  by_cases h : n = k
  · rw [if_pos h, if_pos h]; rfl
  · rw [if_neg h, if_neg h]; rfl

/-- The selections by the row's number are the function of the row's logit. -/
theorem ladder (a : Fin 3) (r : Fin 85) (g : ℕ) (s s2 s3 gx gy : EReal) (hx : gx = cellAt (g % 19)) (hy : gy = cellAt (g / 19))
    (h2 : r.val = 2 → s2 = s) (h3 : r.val = 3 → s3 = s) :
    Scalar.select (IntOp.cmpi CmpIPredicate.eq (BitVec.ofNat 32 r.val) 0#32) ((Ideal.logistic s + gx) * stride)
      (Scalar.select (IntOp.cmpi CmpIPredicate.eq (BitVec.ofNat 32 r.val) 1#32) ((Ideal.logistic s + gy) * stride)
        (Scalar.select (IntOp.cmpi CmpIPredicate.eq (BitVec.ofNat 32 r.val) 2#32) (Ideal.exp s2 * anchorW a)
          (Scalar.select (IntOp.cmpi CmpIPredicate.eq (BitVec.ofNat 32 r.val) 3#32) (Ideal.exp s3 * anchorH a) (Ideal.logistic s))))
      = head a r.val g s := by
  rw [select_row r.val 0 r.isLt (by omega), select_row r.val 1 r.isLt (by omega), select_row r.val 2 r.isLt (by omega), select_row r.val 3 r.isLt (by omega), hx, hy]
  unfold head
  split; · rfl
  split; · rfl
  split
  · rename_i h; rw [h2 h]
  split
  · rename_i h; rw [h3 h]
  rfl

/-- A read depends on its row's number alone. -/
theorem same_row (y : FVec Ideal S384x361 .f32) (q q' : Fin 384) (g : Fin 361) (h : q.val = q'.val) : y (ix2 q g) = y (ix2 q' g) :=
  congrArg (fun q : Fin 384 => y (ix2 q g)) (Fin.ext h)

/-- The first anchor's result is the function of its logit, -/
theorem res0_at (y : FVec Ideal S384x361 .f32) (r : Fin 85) (g : Fin 361) :
    res0 y (ix3 (0 : Fin 1) r g) = head 0 r.val g.val (y (ix2 (⟨r.val, by omega⟩ : Fin 384) g)) := by
  pointwise [res0, k0_pay10, k0_pay9]
  exact ladder 0 r g.val _ _ _ _ _ (col_value r g) (row_value r g)
    (fun h => same_row y _ _ g (by show 2 = r.val; omega)) (fun h => same_row y _ _ g (by show 3 = r.val; omega))
/-- and so is the second's -/
theorem res1_at (y : FVec Ideal S384x361 .f32) (r : Fin 85) (g : Fin 361) :
    res1 y (ix3 (0 : Fin 1) r g) = head 1 r.val g.val (y (ix2 (⟨128 + r.val, by omega⟩ : Fin 384) g)) := by
  pointwise [res1, k0_pay15, k0_pay14, k0_pay13, k0_pay12, k0_pay11, k0_pay9]
  exact ladder 1 r g.val _ _ _ _ _ (col_value r g) (row_value r g)
    (fun h => same_row y _ _ g (by show 130 = 128 + r.val; omega)) (fun h => same_row y _ _ g (by show 131 = 128 + r.val; omega))
/-- and the third's. -/
theorem res2_at (y : FVec Ideal S384x361 .f32) (r : Fin 85) (g : Fin 361) :
    res2 y (ix3 (0 : Fin 1) r g) = head 2 r.val g.val (y (ix2 (⟨256 + r.val, by omega⟩ : Fin 384) g)) := by
  pointwise [res2, k0_pay1, k0_pay22, k0_pay21, k0_pay20, k0_pay19, k0_pay18, k0_pay17, k0_pay16, k0_pay9]
  exact ladder 2 r g.val _ _ _ _ _ (col_value r g) (row_value r g)
    (fun h => same_row y _ _ g (by show 258 = 256 + r.val; omega)) (fun h => same_row y _ _ g (by show 259 = 256 + r.val; omega))

/-- The weights as staged, 128 lanes to a line, read as 255 rows of 1024. -/
abbrev rowAt (x0 : FVec Ideal S2040x128 .f32) (o : Fin 255) (k : Fin 1024) : EReal :=
  x0 (ix2 (⟨o.val * 8 + k.val / 128, by omega⟩ : Fin 2040) (⟨k.val % 128, by omega⟩ : Fin 128))

/-- The rows of weights unpacked for the first anchor, -/
theorem weights0_at (x0 : FVec Ideal S2040x128 .f32) (r : Fin 85) (k : Fin 1024) :
    (k0_pay3 (F := Ideal) x0 (ix2 r k) : EReal) = rowAt x0 ⟨r.val, by omega⟩ k := by
  pointwise [k0_pay3, k0_pay2]
/-- for the second, -/
theorem weights1_at (x0 : FVec Ideal S2040x128 .f32) (r : Fin 85) (k : Fin 1024) :
    (k0_pay4 (F := Ideal) x0 (ix2 r k) : EReal) = rowAt x0 ⟨85 + r.val, by omega⟩ k := by
  pointwise [k0_pay4, k0_pay2]
/-- and for the third. -/
theorem weights2_at (x0 : FVec Ideal S2040x128 .f32) (r : Fin 85) (k : Fin 1024) :
    (k0_pay5 (F := Ideal) x0 (ix2 r k) : EReal) = rowAt x0 ⟨170 + r.val, by omega⟩ k := by
  pointwise [k0_pay5, k0_pay2]

/-- The product at an element: the sum over the input's channels, and the bias. -/
theorem product_at (x : FVec Ideal S1x361x1024 .f32) (w : FVec Ideal S384x1024 .bf16) (x1 : FVec Ideal S384x1 .f32) (q : Fin 384) (g : Fin 361) :
    k0_pay6 (F := Ideal) x w x1 (ix2 q g) = (∑ k : Fin 1024, (show EReal from w (ix2 q k)) * (show EReal from x (ix3 (0 : Fin 1) g k))) + x1 (ix2 q (0 : Fin 1)) := by
  pointwise [k0_pay6]

/-- The logit of channel `r` of anchor `a` at cell `g` of image `b`, from the arrays as the kernel is handed them. -/
def staged (x0 : FVec Ideal S2040x128 .f32) (x : FVec Ideal S361x32x1024 .f32) (x1 : FVec Ideal S384x1 .f32) (b : Fin 32) (a : Fin 3) (r : Fin 85) (g : Fin 361) : EReal :=
  (∑ k : Fin 1024, rowAt x0 ⟨85 * a.val + r.val, by omega⟩ k * (show EReal from x (ix3 g b k))) + x1 (ix2 (⟨128 * a.val + r.val, by omega⟩ : Fin 384) (0 : Fin 1))

/-- With the weights unpacked the product is the logit. -/
theorem prod_at (c : Dev nD) (V : BufOf (F := Ideal) c inM) (u : Fin 32) (x0 : FVec Ideal S2040x128 .f32) (wb : BufOf (F := Ideal) c wM) (hw : Holds c x0 wb)
    (x1 : FVec Ideal S384x1 .f32) (a : Fin 3) (r : Fin 85) (g : Fin 361) (q : Fin 384) (hq : q.val = 128 * a.val + r.val) :
    prod c V u wb x1 (ix2 q g) = staged x0 V x1 u a r g := by
  refine (product_at (xblk c V u) wb x1 q g).trans ?_
  unfold staged
  refine congrArg₂ (fun p q : EReal => p + q) (Finset.sum_congr rfl fun k _ => ?_) (congrArg (fun q : Fin 384 => x1 (ix2 q (0 : Fin 1))) (Fin.ext hq))
  refine congrArg₂ (fun p q : EReal => p * q) ?_ rfl
  have h := hw r k
  fin_cases a
  · exact (congrArg (fun q : Fin 384 => (wb : S384x1024.Idx → EReal) (ix2 q k)) (Fin.ext (hq.trans (show 128 * 0 + r.val = r.val by omega)))).trans (h.1.trans ((weights0_at x0 r k).trans
      (congrArg (fun o : Fin 255 => rowAt x0 o k) (Fin.ext (show r.val = 85 * 0 + r.val by omega)))))
  · exact (congrArg (fun q : Fin 384 => (wb : S384x1024.Idx → EReal) (ix2 q k)) (Fin.ext (hq.trans (show 128 * 1 + r.val = 128 + r.val by omega)))).trans (h.2.1.trans ((weights1_at x0 r k).trans
      (congrArg (fun o : Fin 255 => rowAt x0 o k) (Fin.ext (show 85 + r.val = 85 * 1 + r.val by omega)))))
  · exact (congrArg (fun q : Fin 384 => (wb : S384x1024.Idx → EReal) (ix2 q k)) (Fin.ext (hq.trans (show 128 * 2 + r.val = 256 + r.val by omega)))).trans (h.2.2.trans ((weights2_at x0 r k).trans
      (congrArg (fun o : Fin 255 => rowAt x0 o k) (Fin.ext (show 170 + r.val = 85 * 2 + r.val by omega)))))

/-- The anchor and the cell of a lane of the tile. -/
abbrev anchorOf (n : Fin 1083) : Fin 3 := ⟨n.val / 361, by omega⟩
abbrev cellOf' (n : Fin 1083) : Fin 361 := ⟨n.val % 361, by omega⟩

/-- The tile a point makes: at channel `r` and lane `n`, the function of the logit. -/
theorem tile_at (c : Dev nD) (V : BufOf (F := Ideal) c inM) (u : Fin 32) (x0 : FVec Ideal S2040x128 .f32) (wb : BufOf (F := Ideal) c wM) (hw : Holds c x0 wb)
    (x1 : FVec Ideal S384x1 .f32) (r : Fin 85) (n : Fin 1083) :
    tileVal (prod c V u wb x1) (ix2 r n) = head (anchorOf n) r.val (cellOf' n).val (staged x0 V x1 u (anchorOf n) r (cellOf' n)) := by
  unfold tileVal
  have hn := n.isLt
  split
  · rename_i h; change n.val < 361 at h
    refine (res0_at _ r ⟨n.val, h⟩).trans ?_
    have ea : anchorOf n = 0 := Fin.ext (show n.val / 361 = 0 by omega)
    have eg : cellOf' n = ⟨n.val, h⟩ := Fin.ext (show n.val % 361 = n.val by omega)
    rw [ea, eg]
    exact congrArg (head 0 r.val n.val) (prod_at c V u x0 wb hw x1 0 r ⟨n.val, h⟩ _ (show r.val = 128 * 0 + r.val by omega))
  split
  · rename_i h0 h; change ¬ n.val < 361 at h0; change n.val < 722 at h
    refine (res1_at _ r ⟨n.val - 361, by omega⟩).trans ?_
    have ea : anchorOf n = 1 := Fin.ext (show n.val / 361 = 1 by omega)
    have eg : cellOf' n = ⟨n.val - 361, by omega⟩ := Fin.ext (show n.val % 361 = n.val - 361 by omega)
    rw [ea, eg]
    exact congrArg (head 1 r.val (n.val - 361)) (prod_at c V u x0 wb hw x1 1 r ⟨n.val - 361, by omega⟩ _ (show 128 + r.val = 128 * 1 + r.val by omega))
  · rename_i h0 h; change ¬ n.val < 361 at h0; change ¬ n.val < 722 at h
    refine (res2_at _ r ⟨n.val - 722, by omega⟩).trans ?_
    have ea : anchorOf n = 2 := Fin.ext (show n.val / 361 = 2 by omega)
    have eg : cellOf' n = ⟨n.val - 722, by omega⟩ := Fin.ext (show n.val % 361 = n.val - 722 by omega)
    rw [ea, eg]
    exact congrArg (head 2 r.val (n.val - 722)) (prod_at c V u x0 wb hw x1 2 r ⟨n.val - 722, by omega⟩ _ (show 256 + r.val = 128 * 2 + r.val by omega))

end Cert.KernelIdeal.Gen

end
-- ==== Proof.Value.lean ====
/- What the kernel leaves in its output array, in the extended reals. -/
module

public import proofs.«01_k».proof.Proof.Launch
public import proofs.«01_k».proof.Proof.Pure

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Head

local notation "𝕄" => MT nD τ sig Unit (Elt Ideal) ℕ (Pipeline.UD sig nD τ) ℕ

variable (m : (ℓ : Loc nD τ sig) → Buf (Elt Ideal) ℓ) (ρ : Dev nD → PrngReg)

/-- The output array after the run: at channel `r`, image `b` and lane `n`, the function of the logit. -/
def out (c : Dev nD) : BufOf (F := Ideal) c outM := fun i : S85x32x1083.Idx =>
  (head (anchorOf (i 2)) (i 0).val (cellOf' (i 2)).val (staged (wArr m c) (V m c main_v1) (bArr m c) (i 1) (anchorOf (i 2)) (i 0) (cellOf' (i 2))) : EReal)

/-- Every device's buffers after the region: the output as above, the others as they were. -/
def after (c : Dev nD) (b : Ref sig .tc) : Buf (Elt Ideal) ((c.tc : Thread nD τ).loc b) :=
  Function.update (fun b => V m c b) main_v6 (out m c) b
theorem after_out (c : Dev nD) : after m c main_v6 = out m c := Function.update_self ..

/-- A piece that holds its results holds its part of the output. -/
theorem good_out (c : Dev nD) (u : Fin 32) (f : BufOf (F := Ideal) c (piece u)) (h : Good c (V m c main_v1) (wArr m c) (bArr m c) u f)
    (i : S85x32x1083.Idx) (hi : i ∈ (piece u).view.set) : (f : BufOf (F := Ideal) c outM) i = out m c i := by
  obtain ⟨wb, hw, hf⟩ := h
  obtain ⟨x, -, hx⟩ := Finset.mem_map.mp hi
  have hr : (f : S85x32x1083.Idx → EReal) i = tileVal (prod c (V m c main_v1) u wb (bArr m c)) x := by
    rw [← hf, View.read_apply, ← hx]; rfl
  refine hr.trans ?_
  obtain rfl : i = ValueIdx.ix3 (x 0) u (x 1) := hx.symm.trans (piece_emb u x)
  refine (congrArg (tileVal (prod c (V m c main_v1) u wb (bArr m c))) (eq_ix2 x)).trans ?_
  exact tile_at c (V m c main_v1) u (wArr m c) wb hw (bArr m c) (x 0) (x 1)

/-- Nothing is kept beside. -/
abbrev beside : Dev nD → sProp (MT nD τ sig Unit (Elt Ideal) ℕ (Pipeline.UD sig nD τ) ℕ) := fun _ => BI.emp

theorem hinV (c : Dev nD) : Pipeline.ΦDRV osem0 spec0 H0 R0 (V m) (V m) c ⊢ (dats m beside 0 c).Φ 0 := by
  rw [handedV, show (dats m beside 0 c).Φ 0 = keep m beside c 0 from rfl]
  unfold keep
  iintro ⟨Hs, Hq, Hi, Ho⟩
  isplitr; · iempintro
  iapply (held_in c (V m c main_v1) (wArr m c) (bArr m c))
  isplitl [Hs]; · iexact Hs
  isplitl [Hq]; · iexact Hq
  isplitl [Hi]; · iexact Hi
  iexists _; iexact Ho
theorem houtV (c : Dev nD) : (dats m beside 0 c).Φ (Fin.last cfg0.N) ⊢ Pipeline.ΦDRV osem0 spec0 H0 R0 (V m) (after m) c := by
  rw [handedV, show (dats m beside 0 c).Φ (Fin.last cfg0.N) = keep m beside c grid0.N from rfl, after_out]
  unfold keep
  rw [show grid0.N = 32 by rw [N_0]]
  iintro ⟨-, Hh⟩
  ihave Hh := (held_out c (V m c main_v1) (wArr m c) (bArr m c)) $$ Hh
  icases Hh with ⟨Hs, Hq, Hi, Ho⟩
  ihave Ho := (pieces_out_at c (V m c main_v1) (wArr m c) (bArr m c) (out m c) (good_out m c)) $$ Ho
  isplitl [Hs]; · iexact Hs
  isplitl [Hq]; · iexact Hq
  isplitl [Hi]; · iexact Hi
  iexact Ho

set_option backward.isDefEq.respectTransparency.types false in
set_option maxHeartbeats 800000 in
/-- THE RUN, with values: every buffer no window covers ends at the last host line's result over the output array as above. -/
theorem run_value : θ_run defs (onTc (τ := τ) (main (F := Ideal))) (s₀ m ρ) (fun r => ∀ c : Dev nD,
      ∀ b ∈ Pipeline.restRefs sig spec0, r.2.mem ((c.tc : Thread nD τ).loc b)
        = StableHlo.after ([hostOps1] : List (List (HloOp τ sig (Elt Ideal)))).flatten (Pipeline.withArrays spec0 c (Pipeline.withR (V0 m c) R0 c (after m c)) fun w => (dats m beside 0 c).arrAt w cfg0.N) (Proc.devRef .tc b)) :=
  Pipeline.θ_run_frame_dmaR_aroundV (Q' := _) cfgs (dats m beside) (0 : Fin 1) launch0 osem0 defs₀ Variants.none ownSemFacts0 H0 R0 H0_sub R0_sub m ρ main
    (hbody := fun c => (body_obligation m beside c).loose) (hshare := fun c => (dats m beside 0 c).share_full fun _ => rfl)
    (howed := fun _ _ => rfl) (V₀ := V0 m) (opss := [hostOps1]) (hsub := sfx_sub) (hfresh := sfx_fresh) (hkeep := sfx_keeps) (G := after m)
    (hmain := around m Variants.none) (hA := A_eq m beside) (hin := hinV m) (hout := houtV m) (hQ' := fun r h c => (h.1 c).2)

end Cert.KernelIdeal.Gen

end
-- ==== Proof.Result.lean ====
/- The kernel's result, from its arguments. -/
module

public import proofs.«01_k».proof.Proof.Value
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Head

/-- The logit of output channel `o` at cell `g` of image `b`: the sum over the input's channels, and the bias. -/
def logit (X : FVec Ideal S32x1024x19x19 .f32) (W : FVec Ideal S255x1024x1x1 .f32) (B : FVec Ideal S255 .f32) (b : Fin 32) (o : Fin 255) (g : Fin 361) : EReal :=
  (∑ k : Fin 1024, W (ix4 o k (0 : Fin 1) (0 : Fin 1)) * X (ix4 b k (⟨g.val / 19, by omega⟩ : Fin 19) (⟨g.val % 19, by omega⟩ : Fin 19))) + B (ix1 o)

/-- The result at image `b`, lane `n` and channel `r`. -/
def resultAt (X : FVec Ideal S32x1024x19x19 .f32) (W : FVec Ideal S255x1024x1x1 .f32) (B : FVec Ideal S255 .f32) (b : Fin 32) (n : Fin 1083) (r : Fin 85) : EReal :=
  head (anchorOf n) r.val (cellOf' n).val (logit X W B b ⟨85 * (anchorOf n).val + r.val, by have := (anchorOf n).isLt; omega⟩ (cellOf' n))

variable (m : (ℓ : Loc nD τ sig) → Buf (Elt Ideal) ℓ) (ρ : Dev nD → PrngReg)

/-- The input as the region finds it, as an array of the argument, -/
theorem entry_input (c : Dev nD) : (V m c main_v1 : FVec Ideal S361x32x1024 .f32)
    = shapeCast _ (transpose S19x19x32x1024 [2, 3, 0, 1] (m ((c : Thread nD τ).loc main_arg0) : FVec Ideal S32x1024x19x19 .f32) transposes_S32x1024x19x19_S19x19x32x1024_2_3_0_1) shapeCasts_S19x19x32x1024_S361x32x1024 := by
  simp only [V, V0, hostOps0, hostOps0_1, hostOps0_2, List.flatten_cons, List.flatten_nil, List.cons_append, List.nil_append, List.append_nil]
  after_results_simp
  rfl
/-- the weights, -/
theorem entry_weights (c : Dev nD) : (V m c main_v2 : FVec Ideal S2040x128 .f32)
    = shapeCast _ (m ((c : Thread nD τ).loc main_arg1) : FVec Ideal S255x1024x1x1 .f32) shapeCasts_S255x1024x1x1_S2040x128 := by
  simp only [V, V0, hostOps0, hostOps0_1, hostOps0_2, List.flatten_cons, List.flatten_nil, List.cons_append, List.nil_append, List.append_nil]
  after_results_simp
  rfl
/-- and the biases. -/
theorem entry_biases (c : Dev nD) : (V m c main_v5 : FVec Ideal S384x1 .f32)
    = shapeCast _ (pad S3x128 ![0, 0] ![0, 43] ![0, 0] (shapeCast _ (m ((c : Thread nD τ).loc main_arg2) : FVec Ideal S255 .f32) shapeCasts_S255_S3x85 : FVec Ideal S3x85 .f32)
        (sitofp .f32 (constantI S_ 32 0#32) : FVec Ideal S_ .f32) pads_S3x85_S3x128_000_0430 h_S_ : FVec Ideal S3x128 .f32) shapeCasts_S3x128_S384x1 := by
  simp only [V, V0, hostOps0, hostOps0_1, hostOps0_2, List.flatten_cons, List.flatten_nil, List.cons_append, List.nil_append, List.append_nil]
  after_results_simp
  rfl

/-- The input as the region finds it: cells, images, channels. -/
theorem input_at (c : Dev nD) (g : Fin 361) (b : Fin 32) (k : Fin 1024) :
    (V m c main_v1 : FVec Ideal S361x32x1024 .f32) (ix3 g b k)
      = (m ((c : Thread nD τ).loc main_arg0) : FVec Ideal S32x1024x19x19 .f32) (ix4 b k (⟨g.val / 19, by omega⟩ : Fin 19) (⟨g.val % 19, by omega⟩ : Fin 19)) := by
  rw [entry_input]
  pointwise
/-- The weights, 128 to a line, -/
theorem weights_at (c : Dev nD) (o : Fin 255) (k : Fin 1024) :
    rowAt (V m c main_v2 : FVec Ideal S2040x128 .f32) o k = (m ((c : Thread nD τ).loc main_arg1) : FVec Ideal S255x1024x1x1 .f32) (ix4 o k (0 : Fin 1) (0 : Fin 1)) := by
  unfold rowAt
  rw [entry_weights]
  refine shapeCast_apply _ _ _ _ ?_
  refine (Shape.rowMajor_val_four (ix4 o k (0 : Fin 1) (0 : Fin 1) : S255x1024x1x1.Idx)).trans (Eq.trans ?_ (Shape.rowMajor_val_two (ix2 (⟨o.val * 8 + k.val / 128, by omega⟩ : Fin 2040) (⟨k.val % 128, by omega⟩ : Fin 128) : S2040x128.Idx)).symm)
  show ((o.val * 1024 + k.val) * 1 + 0) * 1 + 0 = (o.val * 8 + k.val / 128) * 128 + k.val % 128
  omega
/-- and the biases, each anchor's 85 from a row of 128. -/
theorem biases_at (c : Dev nD) (a : Fin 3) (r : Fin 85) :
    (V m c main_v5 : FVec Ideal S384x1 .f32) (ix2 (⟨128 * a.val + r.val, by omega⟩ : Fin 384) (0 : Fin 1))
      = (m ((c : Thread nD τ).loc main_arg2) : FVec Ideal S255 .f32) (ix1 (⟨85 * a.val + r.val, by omega⟩ : Fin 255)) := by
  rw [entry_biases]
  pointwise
  rw [dif_pos (by omega)]
  exact congrArg (fun i => (m ((c : Thread nD τ).loc main_arg2) : FVec Ideal S255 .f32) (ix1 i)) (Fin.ext (by show a.val * 85 + (128 * a.val + r.val) % 128 = 85 * a.val + r.val; omega))

theorem index_first : win0_0.index first = ![0, 0] ∧ win0_1.index first = ![0, 0] := by
  decide +kernel
theorem wArr_whole (c : Dev nD) : wArr m c = (V m c main_v2 : FVec Ideal S2040x128 .f32) := by
  funext i
  blk_ext! [iblk, V, index_first.1]
theorem bArr_whole (c : Dev nD) : bArr m c = (V m c main_v5 : FVec Ideal S384x1 .f32) := by
  funext i
  blk_ext! [iblk, V, index_first.2]

/-- What the region leaves, from the arguments. -/
theorem out_at (c : Dev nD) (r : Fin 85) (b : Fin 32) (n : Fin 1083) :
    (out m c : FVec Ideal S85x32x1083 .f32) (ix3 r b n)
      = resultAt (m ((c : Thread nD τ).loc main_arg0)) (m ((c : Thread nD τ).loc main_arg1)) (m ((c : Thread nD τ).loc main_arg2)) b n r := by
  refine congrArg (head (anchorOf n) r.val (cellOf' n).val) ?_
  show staged (wArr m c) (V m c main_v1) (bArr m c) b (anchorOf n) r (cellOf' n) = _
  rw [wArr_whole, bArr_whole]
  unfold staged logit
  refine congrArg₂ (fun s t : EReal => s + t) (Finset.sum_congr rfl fun k _ => ?_) (biases_at m c (anchorOf n) r)
  exact congrArg₂ (fun s t : EReal => s * t) (weights_at m c _ k) (input_at m c (cellOf' n) b k)

/-- The buffers when the region has ended. -/
abbrev ended (c : Dev nD) : Valuation τ sig (Elt Ideal) :=
  Pipeline.withArrays spec0 c (Pipeline.withR (V0 m c) R0 c (after m c)) fun w => (dats m beside 0 c).arrAt w cfg0.N
/-- A buffer the region neither stages nor is handed is as it was, -/
theorem ended_kept (c : Dev nD) (b : Ref sig .tc) (hw : ∀ w, Pipeline.arrRef spec0 w ≠ b) (hR : b ∉ R0) :
    ended m c (Proc.devRef .tc b) = V m c b :=
  (Pipeline.withArrays_of_ne spec0 c _ _ b hw).trans (Pipeline.withR_of_not_mem (V0 m c) R0 c (after m c) b hR)
/-- and the output array holds the results. -/
theorem ended_out (c : Dev nD) : ended m c (Proc.devRef .tc main_v6) = out m c :=
  ((Pipeline.withArrays_of_ne spec0 c _ _ main_v6 (by decide)).trans (Pipeline.withR_of_mem (V0 m c) R0 c (after m c) main_v6 (by decide))).trans (after_out m c)

/-- THE KERNEL'S RESULT: the run ends with the result's every element as above and the arguments as launched. -/
theorem run_result : θ_run defs (onTc (τ := τ) (main (F := Ideal))) (s₀ m ρ) (fun r => ∀ c : Dev nD,
      (r.2.mem ((c.tc : Thread nD τ).loc main_v7) = fun i : S32x1083x85.Idx => resultAt (m ((c : Thread nD τ).loc main_arg0)) (m ((c : Thread nD τ).loc main_arg1)) (m ((c : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_value m ρ)
  refine ⟨(h c main_v7 (by decide)).trans ?_, (h c main_arg0 (by decide)).trans ?_, (h c main_arg1 (by decide)).trans ?_, (h c main_arg2 (by decide)).trans ?_⟩
  · have hv : StableHlo.after ([hostOps1] : List (List (HloOp τ sig (Elt Ideal)))).flatten (ended m c) (Proc.devRef .tc main_v7)
        = (transpose S32x1083x85 [1, 2, 0] (ended m c (Proc.devRef .tc main_v6) : FVec Ideal S85x32x1083 .f32) transposes_S85x32x1083_S32x1083x85_1_2_0 : FVec Ideal S32x1083x85 .f32) := by
      simp only [hostOps1, List.flatten_cons, List.flatten_nil, List.cons_append, List.nil_append, List.append_nil]
      after_results_simp
    refine hv.trans ?_
    rw [ended_out]
    funext i
    obtain ⟨b, n, r, rfl⟩ : ∃ (b : Fin 32) (n : Fin 1083) (r : Fin 85), i = ix3 b n r := ⟨i 0, i 1, i 2, eq_ix3 i⟩
    refine Eq.trans ?_ (out_at m c r b n)
    pointwise
  · simp only [hostOps1, List.flatten_cons, List.flatten_nil, List.cons_append, List.nil_append, List.append_nil]
    after_results_simp
    exact (ended_kept m c main_arg0 (by decide) (by decide)).trans (V_main_arg0 m c)
  · simp only [hostOps1, List.flatten_cons, List.flatten_nil, List.cons_append, List.nil_append, List.append_nil]
    after_results_simp
    exact (ended_kept m c main_arg1 (by decide) (by decide)).trans (V_main_arg1 m c)
  · simp only [hostOps1, List.flatten_cons, List.flatten_nil, List.cons_append, List.nil_append, List.append_nil]
    after_results_simp
    exact (ended_kept m c main_arg2 (by decide) (by decide)).trans (V_main_arg2 m c)

end Cert.KernelIdeal.Gen

end
-- ==== Proof.Plain.lean ====
/- The reference's result at an index. -/
module

public import proofs.«01_k».proof.Proof.Gen.ReferenceIdeal.Run
public import proofs.«01_k».proof.Proof.Result
public import Idealize.ShloMosaic.Lib.Pointwise
public import Idealize.ShloMosaic.Lib.IdealHost

@[expose] public section

set_option maxRecDepth 16384

noncomputable section

namespace Cert.ReferenceIdeal.Value

open Idealize.ShloMosaic Idealize.ShloMosaic.TcCoe Idealize.ShloMosaic.Tactic
open Cert.ReferenceIdeal.Gen Cert.Head
open Cert.KernelIdeal.Gen (logit resultAt anchorOf cellOf')

/-- The stride is thirty-two. -/
theorem stride_real : stride = ((32 : ℝ) : EReal) := by
  simp [stride, Ideal.ofBits, Ideal.ieee, -EReal.coe_mul]; norm_num
/-- A scaled anchor times the stride is the anchor, its width -/
theorem width_at (a : Fin 3) : Ideal.ofBits .f32 (lit0 (S3x2.rowMajor (ix2 a (0 : Fin 2)))) * stride = anchorW a := by
  rw [stride_real]
  have h : lit0 (S3x2.rowMajor (ix2 a (0 : Fin 2))) = (![0x40680000#32, 0x409C0000#32, 0x413A8000#32] : Fin 3 → BitVec 32) a := by
    revert a; decide
  rw [h]
  fin_cases a <;> simp [anchorW, Ideal.ofBits, Ideal.ieee, -EReal.coe_mul] <;> rw [← EReal.coe_mul] <;> norm_num
/-- and its height. -/
theorem height_at (a : Fin 3) : Ideal.ofBits .f32 (lit0 (S3x2.rowMajor (ix2 a (1 : Fin 2)))) * stride = anchorH a := by
  rw [stride_real]
  have h : lit0 (S3x2.rowMajor (ix2 a (1 : Fin 2))) = (![0x40340000#32, 0x40C60000#32, 0x41230000#32] : Fin 3 → BitVec 32) a := by
    revert a; decide
  rw [h]
  fin_cases a <;> simp [anchorH, Ideal.ofBits, Ideal.ieee, -EReal.coe_mul] <;> rw [← EReal.coe_mul] <;> norm_num

/-- The logit as the reference reads it: the cell by its row and column. -/
theorem logit_at (X : FVec Ideal S32x1024x19x19 .f32) (W : FVec Ideal S255x1024x1x1 .f32) (B : FVec Ideal S255 .f32) (b : Fin 32) (n : Fin 1083) (r : Fin 85) (o : Fin 255)
    (h : o.val = n.val / 361 * 85 + r.val) :
    (∑ k : Fin 1024, W (ix4 o k (0 : Fin 1) (0 : Fin 1)) * X (ix4 b k (⟨n.val / 19 % 19, by omega⟩ : Fin 19) (⟨n.val % 19, by omega⟩ : Fin 19))) + B (ix1 o)
      = logit X W B b ⟨85 * (anchorOf n).val + r.val, by have := (anchorOf n).isLt; omega⟩ (cellOf' n) := by
  have ho : (⟨85 * (anchorOf n).val + r.val, by have := (anchorOf n).isLt; omega⟩ : Fin 255) = o := Fin.ext (by show 85 * (n.val / 361) + r.val = o.val; omega)
  have hy : (⟨(cellOf' n).val / 19, by have := (cellOf' n).isLt; omega⟩ : Fin 19) = ⟨n.val / 19 % 19, by omega⟩ := Fin.ext (by show n.val % 361 / 19 = n.val / 19 % 19; omega)
  have hx : (⟨(cellOf' n).val % 19, by omega⟩ : Fin 19) = ⟨n.val % 19, by omega⟩ := Fin.ext (by show n.val % 361 % 19 = n.val % 19; omega)
  unfold logit
  rw [ho, hy, hx]

/-- An element at a lane, the cell's column and row from the lane. -/
theorem head_at (n : Fin 1083) (r : Fin 85) (s : EReal) : head (anchorOf n) r.val (cellOf' n).val s
    = if r.val = 0 then (Ideal.logistic s + cellAt (n.val % 19)) * stride
      else if r.val = 1 then (Ideal.logistic s + cellAt (n.val / 19 % 19)) * stride
      else if r.val = 2 then Ideal.exp s * anchorW (anchorOf n)
      else if r.val = 3 then Ideal.exp s * anchorH (anchorOf n)
      else Ideal.logistic s := by
  have hg : (cellOf' n).val % 19 = n.val % 19 := by show n.val % 361 % 19 = _; omega
  have hd : (cellOf' n).val / 19 = n.val / 19 % 19 := by show n.val % 361 / 19 = _; omega
  unfold head
  rw [hg, hd]

/-- A channel is one of the box's four, the objectness or a class. -/
theorem channel_cases (r : ℕ) : r = 0 ∨ r = 1 ∨ r = 2 ∨ r = 3 ∨ r = 4 ∨ 5 ≤ r := by
  rcases r with _ | _ | _ | _ | _ | r
  all_goals simp

/-- The logit of an element, whose value the element is a function of. -/
theorem logit_exists (X : FVec Ideal S32x1024x19x19 .f32) (W : FVec Ideal S255x1024x1x1 .f32) (B : FVec Ideal S255 .f32) (b : Fin 32) (n : Fin 1083) (r : Fin 85) :
    ∃ s : EReal, (∀ o : Fin 255, o.val = n.val / 361 * 85 + r.val →
        (∑ k : Fin 1024, W (ix4 o k (0 : Fin 1) (0 : Fin 1)) * X (ix4 b k (⟨n.val / 19 % 19, by omega⟩ : Fin 19) (⟨n.val % 19, by omega⟩ : Fin 19))) + B (ix1 o) = s)
      ∧ resultAt X W B b n r = head (anchorOf n) r.val (cellOf' n).val s :=
  ⟨_, logit_at X W B b n r, rfl⟩

variable (m : (ℓ : Loc nD τ sig) → Buf (Elt Ideal) ℓ)

set_option maxHeartbeats 800000 in
/-- THE REFERENCE'S RESULT at image `b`, lane `n` and channel `r`, from its arguments. -/
theorem plain_at (c : Dev nD) (b : Fin 32) (n : Fin 1083) (r : Fin 85) :
    (res_main_v74 m c : FVec Ideal S32x1083x85 .f32) (ix3 b n r)
      = resultAt (m ((c.tc : Thread nD τ).loc main_arg0)) (m ((c.tc : Thread nD τ).loc main_arg1)) (m ((c.tc : Thread nD τ).loc main_arg2)) b n r := by
  obtain ⟨s, L, hR⟩ := logit_exists (m ((c.tc : Thread nD τ).loc main_arg0)) (m ((c.tc : Thread nD τ).loc main_arg1)) (m ((c.tc : Thread nD τ).loc main_arg2)) b n r
  rw [hR, head_at]
  clear hR
  generalize hY : (if r.val = 0 then _ else _ : EReal) = Y
  unfold res_main_v74
  pointwise
  refine Or.elim (channel_cases r.val) (fun h => ?_) fun h => h.elim (fun h => ?_) fun h => h.elim (fun h => ?_) fun h => h.elim (fun h => ?_) fun h => h.elim (fun h => ?_) fun h => ?_
  · rw [dif_pos (show r.val < 4 by omega), dif_pos (show r.val < 1 by omega), L ⟨n.val / 361 * 85, by omega⟩ (show n.val / 361 * 85 = _ by omega), ← hY, if_pos h]
    rfl
  · rw [dif_pos (show r.val < 4 by omega), dif_neg (show ¬ r.val < 1 by omega), dif_pos (show r.val - 1 < 1 by omega), L ⟨n.val / 361 * 85 + 1, by omega⟩ (show n.val / 361 * 85 + 1 = _ by omega), ← hY,
      if_neg (show ¬ r.val = 0 by omega), if_pos h]
    rfl
  · rw [dif_pos (show r.val < 4 by omega), dif_neg (show ¬ r.val < 1 by omega), dif_neg (show ¬ r.val - 1 < 1 by omega), dif_pos (show r.val - 1 - 1 < 1 by omega)]
    refine (congrArg (fun t : EReal => (Ideal.exp t * Ideal.ofBits .f32 (lit0 (S3x2.rowMajor (ix2 (anchorOf n) (0 : Fin 2))))) * stride) (L ⟨n.val / 361 * 85 + 2, by omega⟩ (show n.val / 361 * 85 + 2 = _ by omega))).trans ?_
    rw [← hY, if_neg (show ¬ r.val = 0 by omega), if_neg (show ¬ r.val = 1 by omega), if_pos h]
    exact (mul_assoc _ _ _).trans (congrArg (fun t : EReal => Ideal.exp s * t) (width_at (anchorOf n)))
  · rw [dif_pos (show r.val < 4 by omega), dif_neg (show ¬ r.val < 1 by omega), dif_neg (show ¬ r.val - 1 < 1 by omega), dif_neg (show ¬ r.val - 1 - 1 < 1 by omega)]
    refine (congrArg (fun t : EReal => (Ideal.exp t * Ideal.ofBits .f32 (lit0 (S3x2.rowMajor (ix2 (anchorOf n) (1 : Fin 2))))) * stride) (L ⟨n.val / 361 * 85 + 3, by omega⟩ (show n.val / 361 * 85 + 3 = _ by omega))).trans ?_
    rw [← hY, if_neg (show ¬ r.val = 0 by omega), if_neg (show ¬ r.val = 1 by omega), if_neg (show ¬ r.val = 2 by omega), if_pos h]
    exact (mul_assoc _ _ _).trans (congrArg (fun t : EReal => Ideal.exp s * t) (height_at (anchorOf n)))
  · rw [dif_neg (show ¬ r.val < 4 by omega), dif_pos (show r.val - 4 < 1 by omega), L ⟨n.val / 361 * 85 + 4, by omega⟩ (show n.val / 361 * 85 + 4 = _ by omega), ← hY,
      if_neg (show ¬ r.val = 0 by omega), if_neg (show ¬ r.val = 1 by omega), if_neg (show ¬ r.val = 2 by omega), if_neg (show ¬ r.val = 3 by omega)]
    rfl
  · rw [dif_neg (show ¬ r.val < 4 by omega), dif_neg (show ¬ r.val - 4 < 1 by omega), L ⟨n.val / 361 * 85 + (5 + (r.val - 4 - 1)), by omega⟩ (show n.val / 361 * 85 + (5 + (r.val - 4 - 1)) = _ by omega), ← hY,
      if_neg (show ¬ r.val = 0 by omega), if_neg (show ¬ r.val = 1 by omega), if_neg (show ¬ r.val = 2 by omega), if_neg (show ¬ r.val = 3 by omega)]
    rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Result
public import proofs.«01_k».proof.Proof.Plain
public import Idealize.ShloMosaic.Adequacy
public import Idealize.ShloMosaic.Init

@[expose] public section

noncomputable section

namespace Cert.Proof

open Idealize.ShloMosaic Idealize.SL.Sem Cert.Kernel

/-- The reference terminates with its three arguments as launched and, declaring no semaphore, with every counter at
    zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- Over the extended reals the kernel and the reference, from equal arguments, end with equal results: each of the
    result's elements, on either side, is the same function of the arguments. -/
theorem equal_results : Cert.algebraic_KernelIdeal_ReferenceIdeal (hKernelIdeal := Cert.KernelIdeal.Gen.facts) (hReferenceIdeal := Cert.ReferenceIdeal.Gen.facts) := by
  intro m g m' g' _ hArgs
  refine ⟨_, Cert.KernelIdeal.Gen.run_result m g, (θ_run Cert.ReferenceIdeal.defs _ _).mono (fun r h c => ?_) (Cert.ReferenceIdeal.Value.run (F := Ideal) m' g')⟩
  refine ⟨(h c).1.trans ?_, (h c).2⟩
  funext i
  obtain ⟨b, n, r, rfl⟩ : ∃ (b : Fin 32) (n : Fin 1083) (r : Fin 85), i = ix3 b n r := ⟨i 0, i 1, i 2, eq_ix3 i⟩
  refine (Cert.ReferenceIdeal.Value.plain_at m' c b n r).trans ?_
  obtain ⟨h0, h1, h2⟩ := hArgs c
  rw [h0, h1, h2]
  rfl

/-- The certificate's claim: the three frames, the idealization that rewrites nothing, and the equal results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, equal_results⟩

end Cert.Proof

end
